-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91_3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x125x16x16 : Shape := ⟨4, ![2, 125, 16, 16]⟩
abbrev S2x125x256 : Shape := ⟨3, ![2, 125, 256]⟩
abbrev S2x8x1280 : Shape := ⟨3, ![2, 8, 1280]⟩
abbrev S1x125x256 : Shape := ⟨3, ![1, 125, 256]⟩
abbrev S1x8x1280 : Shape := ⟨3, ![1, 8, 1280]⟩
abbrev S1280x1280 : Shape := ⟨2, ![1280, 1280]⟩
abbrev S1280x128 : Shape := ⟨2, ![1280, 128]⟩
abbrev S10x128 : Shape := ⟨2, ![10, 128]⟩
abbrev S125x256 : Shape := ⟨2, ![125, 256]⟩
abbrev S1x256 : Shape := ⟨2, ![1, 256]⟩
abbrev S20x256 : Shape := ⟨2, ![20, 256]⟩
abbrev S256 : Shape := ⟨1, ![256]⟩
abbrev S1x1280 : Shape := ⟨2, ![1, 1280]⟩
abbrev S8x1280 : Shape := ⟨2, ![8, 1280]⟩
abbrev S1280x1 : Shape := ⟨2, ![1280, 1]⟩
abbrev S128x1280 : Shape := ⟨2, ![128, 1280]⟩
abbrev S128x1 : Shape := ⟨2, ![128, 1]⟩
abbrev S128 : Shape := ⟨1, ![128]⟩
abbrev S1x1x1280 : Shape := ⟨3, ![1, 1, 1280]⟩
abbrev S1 : Shape := ⟨1, ![1]⟩
abbrev S1x1x1 : Shape := ⟨3, ![1, 1, 1]⟩
abbrev S3x1280 : Shape := ⟨2, ![3, 1280]⟩
abbrev S1280x8 : Shape := ⟨2, ![1280, 8]⟩
abbrev S128x128 : Shape := ⟨2, ![128, 128]⟩
abbrev S1x128 : Shape := ⟨2, ![1, 128]⟩
abbrev S1x1 : Shape := ⟨2, ![1, 1]⟩
abbrev S6x1280 : Shape := ⟨2, ![6, 1280]⟩
abbrev S2x7x1280 : Shape := ⟨3, ![2, 7, 1280]⟩
abbrev S2x1280x7 : Shape := ⟨3, ![2, 1280, 7]⟩

abbrev nBuf : Space → Nat
  | .hbm => 5
  | .vmem => 7
  | .smem => 0
  | _ => 0

abbrev bufTy : (tb : Table) → Fin (tcTables nBuf tb) → BufTy
  | .hbm, ⟨0, _⟩ => ⟨S2x125x16x16, .f32⟩
  | .hbm, ⟨1, _⟩ => ⟨S2x125x256, .f32⟩
  | .hbm, ⟨2, _⟩ => ⟨S2x8x1280, .f32⟩
  | .hbm, ⟨3, _⟩ => ⟨S2x7x1280, .f32⟩
  | .hbm, ⟨4, _⟩ => ⟨S2x1280x7, .f32⟩
  | .local _ .vmem, ⟨0, _⟩ => ⟨S1x125x256, .f32⟩
  | .local _ .vmem, ⟨1, _⟩ => ⟨S1x125x256, .f32⟩
  | .local _ .vmem, ⟨2, _⟩ => ⟨S1x8x1280, .f32⟩
  | .local _ .vmem, ⟨3, _⟩ => ⟨S1x8x1280, .f32⟩
  | .local _ .vmem, ⟨4, _⟩ => ⟨S1280x1280, .f32⟩
  | .local _ .vmem, ⟨5, _⟩ => ⟨S1280x128, .f32⟩
  | .local _ .vmem, ⟨6, _⟩ => ⟨S10x128, .f32⟩
  | _, _ => ⟨S2x125x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x125x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2x125x16x16 : Shape := ⟨4, ![2, 125, 16, 16]⟩
abbrev S2x5x25x16x16 : Shape := ⟨5, ![2, 5, 25, 16, 16]⟩
abbrev S2x5x4x16x16 : Shape := ⟨5, ![2, 5, 4, 16, 16]⟩
abbrev S2x5x1x16x16 : Shape := ⟨5, ![2, 5, 1, 16, 16]⟩
abbrev S2x5x16x16 : Shape := ⟨4, ![2, 5, 16, 16]⟩
abbrev S2x5x20x16x16 : Shape := ⟨5, ![2, 5, 20, 16, 16]⟩
abbrev S16 : Shape := ⟨1, ![16]⟩
abbrev S1x16 : Shape := ⟨2, ![1, 16]⟩
abbrev S1x1x1x16 : Shape := ⟨4, ![1, 1, 1, 16]⟩
abbrev S16x1x1x16 : Shape := ⟨4, ![16, 1, 1, 16]⟩
abbrev S16x16 : Shape := ⟨2, ![16, 16]⟩
abbrev S256 : Shape := ⟨1, ![256]⟩
abbrev S16x1 : Shape := ⟨2, ![16, 1]⟩
abbrev S1x16x1x1 : Shape := ⟨4, ![1, 16, 1, 1]⟩
abbrev S1x16x16x1 : Shape := ⟨4, ![1, 16, 16, 1]⟩
abbrev S2x5x16x16x4 : Shape := ⟨5, ![2, 5, 16, 16, 4]⟩
abbrev S2x5x256x4 : Shape := ⟨4, ![2, 5, 256, 4]⟩
abbrev S2x5x256x1 : Shape := ⟨4, ![2, 5, 256, 1]⟩
abbrev S2x5x256 : Shape := ⟨3, ![2, 5, 256]⟩
abbrev S1x256 : Shape := ⟨2, ![1, 256]⟩
abbrev S1x1x256 : Shape := ⟨3, ![1, 1, 256]⟩
abbrev S_ : Shape := ⟨0, ![]⟩
abbrev S1x1 : Shape := ⟨2, ![1, 1]⟩
abbrev S5x1 : Shape := ⟨2, ![5, 1]⟩
abbrev S1x5x1 : Shape := ⟨3, ![1, 5, 1]⟩
abbrev S2x1280x4 : Shape := ⟨3, ![2, 1280, 4]⟩
abbrev S2x1280 : Shape := ⟨2, ![2, 1280]⟩
abbrev S2x5x16x16x20 : Shape := ⟨5, ![2, 5, 16, 16, 20]⟩
abbrev S2x1280x20 : Shape := ⟨3, ![2, 1280, 20]⟩
abbrev S2x1280x1 : Shape := ⟨3, ![2, 1280, 1]⟩
abbrev S2x1280x7 : Shape := ⟨3, ![2, 1280, 7]⟩
abbrev S1280 : Shape := ⟨1, ![1280]⟩
abbrev S2x1x7 : Shape := ⟨3, ![2, 1, 7]⟩
abbrev S2x1x1 : Shape := ⟨3, ![2, 1, 1]⟩
abbrev S2x1 : Shape := ⟨2, ![2, 1]⟩
abbrev S2x1x4 : Shape := ⟨3, ![2, 1, 4]⟩
abbrev S2x1x1280 : Shape := ⟨3, ![2, 1, 1280]⟩
abbrev S1x1280 : Shape := ⟨2, ![1, 1280]⟩
abbrev S2x1280x6 : Shape := ⟨3, ![2, 1280, 6]⟩

abbrev nBuf : Space → Nat
  | .hbm => 258
  | .vmem => 0
  | .smem => 0
  | _ => 0

abbrev hbmTy0_0 (i : Nat) : BufTy := match i % 128 with
  | 0 => ⟨S2x125x16x16, .f32⟩
  | 1 => ⟨S2x5x25x16x16, .f32⟩
  | 2 => ⟨S2x5x4x16x16, .f32⟩
  | 3 => ⟨S2x5x1x16x16, .f32⟩
  | 4 => ⟨S2x5x16x16, .f32⟩
  | 5 => ⟨S2x5x20x16x16, .f32⟩
  | 6 => ⟨S16, .f32⟩
  | 7 => ⟨S1x16, .f32⟩
  | 8 => ⟨S1x1x1x16, .f32⟩
  | 9 => ⟨S16x1x1x16, .f32⟩
  | 10 => ⟨S16x16, .f32⟩
  | 11 => ⟨S256, .f32⟩
  | 12 => ⟨S16, .f32⟩
  | 13 => ⟨S16x1, .f32⟩
  | 14 => ⟨S1x16x1x1, .f32⟩
  | 15 => ⟨S1x16x16x1, .f32⟩
  | 16 => ⟨S16x16, .f32⟩
  | 17 => ⟨S256, .f32⟩
  | 18 => ⟨S2x5x16x16x4, .f32⟩
  | 19 => ⟨S2x5x256x4, .f32⟩
  | 20 => ⟨S2x5x256x1, .f32⟩
  | 21 => ⟨S2x5x256, .f32⟩
  | 22 => ⟨S1x256, .f32⟩
  | 23 => ⟨S1x1x256, .f32⟩
  | 24 => ⟨S2x5x256, .f32⟩
  | 25 => ⟨S2x5x256, .f32⟩
  | 26 => ⟨S_, .f32⟩
  | 27 => ⟨S2x5x256, .f32⟩
  | 28 => ⟨S2x5x256, .f32⟩
  | 29 => ⟨S2x5x256x1, .f32⟩
  | 30 => ⟨S2x5x256, .f32⟩
  | 31 => ⟨S1x256, .f32⟩
  | 32 => ⟨S1x1x256, .f32⟩
  | 33 => ⟨S2x5x256, .f32⟩
  | 34 => ⟨S2x5x256, .f32⟩
  | 35 => ⟨S_, .f32⟩
  | 36 => ⟨S2x5x256, .f32⟩
  | 37 => ⟨S2x5x256, .f32⟩
  | 38 => ⟨S2x5x256x1, .f32⟩
  | 39 => ⟨S2x5x256, .f32⟩
  | 40 => ⟨S2x5x256, .f32⟩
  | 41 => ⟨S_, .f32⟩
  | 42 => ⟨S1x1, .f32⟩
  | 43 => ⟨S_, .f32⟩
  | 44 => ⟨S1x1, .f32⟩
  | 45 => ⟨S_, .f32⟩
  | 46 => ⟨S1x1, .f32⟩
  | 47 => ⟨S_, .f32⟩
  | 48 => ⟨S1x1, .f32⟩
  | 49 => ⟨S_, .f32⟩
  | 50 => ⟨S1x1, .f32⟩
  | 51 => ⟨S5x1, .f32⟩
  | 52 => ⟨S_, .f32⟩
  | 53 => ⟨S5x1, .f32⟩
  | 54 => ⟨S5x1, .f32⟩
  | 55 => ⟨S1x5x1, .f32⟩
  | 56 => ⟨S2x5x256, .f32⟩
  | 57 => ⟨S2x5x256, .f32⟩
  | 58 => ⟨S2x5x256x1, .f32⟩
  | 59 => ⟨S2x5x256, .f32⟩
  | 60 => ⟨S2x5x256, .f32⟩
  | 61 => ⟨S_, .f32⟩
  | 62 => ⟨S1x1, .f32⟩
  | 63 => ⟨S_, .f32⟩
  | 64 => ⟨S1x1, .f32⟩
  | 65 => ⟨S_, .f32⟩
  | 66 => ⟨S1x1, .f32⟩
  | 67 => ⟨S_, .f32⟩
  | 68 => ⟨S1x1, .f32⟩
  | 69 => ⟨S_, .f32⟩
  | 70 => ⟨S1x1, .f32⟩
  | 71 => ⟨S5x1, .f32⟩
  | 72 => ⟨S_, .f32⟩
  | 73 => ⟨S5x1, .f32⟩
  | 74 => ⟨S5x1, .f32⟩
  | 75 => ⟨S1x5x1, .f32⟩
  | 76 => ⟨S2x5x256, .f32⟩
  | 77 => ⟨S2x5x256, .f32⟩
  | 78 => ⟨S2x5x256x1, .f32⟩
  | 79 => ⟨S2x5x256x1, .f32⟩
  | 80 => ⟨S2x5x256x1, .f32⟩
  | 81 => ⟨S2x5x256x1, .f32⟩
  | 82 => ⟨S2x5x256x4, .f32⟩
  | 83 => ⟨S2x1280x4, .f32⟩
  | 84 => ⟨S2x1280, .f32⟩
  | 85 => ⟨S2x5x16x16x20, .f32⟩
  | 86 => ⟨S2x1280x20, .f32⟩
  | 87 => ⟨S_, .f32⟩
  | 88 => ⟨S2x1280, .f32⟩
  | 89 => ⟨S2x1280x1, .f32⟩
  | 90 => ⟨S2x1280x1, .i32⟩
  | 91 => ⟨S2x1280, .i32⟩
  | 92 => ⟨S2x1280, .f32⟩
  | 93 => ⟨S2x1280x1, .f32⟩
  | 94 => ⟨S2x1280x1, .f32⟩
  | 95 => ⟨S2x1280x1, .f32⟩
  | 96 => ⟨S2x1280x7, .f32⟩
  | 97 => ⟨S2x1280x1, .f32⟩
  | 98 => ⟨S2x1280, .f32⟩
  | 99 => ⟨S2x1280, .f32⟩
  | 100 => ⟨S2x1280, .i32⟩
  | 101 => ⟨S2x1280, .f32⟩
  | 102 => ⟨S2x1280, .i32⟩
  | 103 => ⟨S_, .i32⟩
  | 104 => ⟨S2x1280, .i32⟩
  | 105 => ⟨S2x1280, .i1⟩
  | 106 => ⟨S_, .i32⟩
  | 107 => ⟨S2x1280, .i32⟩
  | 108 => ⟨S2x1280, .i32⟩
  | 109 => ⟨S2x1280, .i32⟩
  | 110 => ⟨S2x1280x1, .i32⟩
  | 111 => ⟨S2x1280x7, .f32⟩
  | 112 => ⟨S1280, .i32⟩
  | 113 => ⟨S_, .i32⟩
  | 114 => ⟨S_, .i32⟩
  | 115 => ⟨S1280, .i32⟩
  | 116 => ⟨S_, .i32⟩
  | 117 => ⟨S_, .i32⟩
  | 118 => ⟨S2x1280x7, .f32⟩
  | 119 => ⟨S_, .i32⟩
  | 120 => ⟨S_, .i1⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S2x125x16x16, .f32⟩

abbrev hbmTy0_1 (i : Nat) : BufTy := match i % 128 with
  | 0 => ⟨S_, .i32⟩
  | 1 => ⟨S_, .i32⟩
  | 2 => ⟨S_, .i32⟩
  | 3 => ⟨S2x1x7, .f32⟩
  | 4 => ⟨S2x1x1, .f32⟩
  | 5 => ⟨S2x1, .f32⟩
  | 6 => ⟨S2x1x4, .f32⟩
  | 7 => ⟨S2x1280x4, .f32⟩
  | 8 => ⟨S2x1x1, .f32⟩
  | 9 => ⟨S2x1, .f32⟩
  | 10 => ⟨S2x1x1, .f32⟩
  | 11 => ⟨S2x1, .f32⟩
  | 12 => ⟨S2x1x1, .f32⟩
  | 13 => ⟨S2x1, .f32⟩
  | 14 => ⟨S2x1x1, .f32⟩
  | 15 => ⟨S2x1, .f32⟩
  | 16 => ⟨S_, .f32⟩
  | 17 => ⟨S2x1, .f32⟩
  | 18 => ⟨S2x1, .f32⟩
  | 19 => ⟨S2x1, .f32⟩
  | 20 => ⟨S_, .f32⟩
  | 21 => ⟨S2x1, .f32⟩
  | 22 => ⟨S2x1, .f32⟩
  | 23 => ⟨S2x1, .f32⟩
  | 24 => ⟨S_, .f32⟩
  | 25 => ⟨S2x1, .f32⟩
  | 26 => ⟨S2x1, .f32⟩
  | 27 => ⟨S2x1, .f32⟩
  | 28 => ⟨S_, .f32⟩
  | 29 => ⟨S2x1, .f32⟩
  | 30 => ⟨S2x1, .f32⟩
  | 31 => ⟨S2x1, .f32⟩
  | 32 => ⟨S2x1280x1, .f32⟩
  | 33 => ⟨S2x1280, .f32⟩
  | 34 => ⟨S2x1280x1, .f32⟩
  | 35 => ⟨S2x1280, .f32⟩
  | 36 => ⟨S2x1280x1, .f32⟩
  | 37 => ⟨S2x1280, .f32⟩
  | 38 => ⟨S2x1280x1, .f32⟩
  | 39 => ⟨S2x1280, .f32⟩
  | 40 => ⟨S_, .f32⟩
  | 41 => ⟨S2x1280, .f32⟩
  | 42 => ⟨S2x1280, .f32⟩
  | 43 => ⟨S2x1280, .f32⟩
  | 44 => ⟨S_, .f32⟩
  | 45 => ⟨S2x1280, .f32⟩
  | 46 => ⟨S2x1280, .f32⟩
  | 47 => ⟨S2x1280, .f32⟩
  | 48 => ⟨S_, .f32⟩
  | 49 => ⟨S2x1280, .f32⟩
  | 50 => ⟨S2x1280, .f32⟩
  | 51 => ⟨S2x1280, .f32⟩
  | 52 => ⟨S_, .f32⟩
  | 53 => ⟨S2x1280, .f32⟩
  | 54 => ⟨S2x1280, .f32⟩
  | 55 => ⟨S2x1280, .f32⟩
  | 56 => ⟨S2x1x1, .f32⟩
  | 57 => ⟨S2x1x1280, .f32⟩
  | 58 => ⟨S2x1x1280, .f32⟩
  | 59 => ⟨S2x1x1280, .f32⟩
  | 60 => ⟨S2x1x1, .f32⟩
  | 61 => ⟨S2x1x1280, .f32⟩
  | 62 => ⟨S2x1x1280, .f32⟩
  | 63 => ⟨S2x1x1280, .f32⟩
  | 64 => ⟨S2x1x1, .f32⟩
  | 65 => ⟨S2x1x1280, .f32⟩
  | 66 => ⟨S2x1x1280, .f32⟩
  | 67 => ⟨S2x1x1280, .f32⟩
  | 68 => ⟨S2x1x1, .f32⟩
  | 69 => ⟨S2x1x1280, .f32⟩
  | 70 => ⟨S2x1x1280, .f32⟩
  | 71 => ⟨S2x1x1280, .f32⟩
  | 72 => ⟨S2x1x1280, .f32⟩
  | 73 => ⟨S_, .f32⟩
  | 74 => ⟨S2x1x1280, .f32⟩
  | 75 => ⟨S2x1x1280, .f32⟩
  | 76 => ⟨S2x1x1280, .f32⟩
  | 77 => ⟨S_, .f32⟩
  | 78 => ⟨S2x1x1280, .f32⟩
  | 79 => ⟨S2x1x1280, .f32⟩
  | 80 => ⟨S2x1x1280, .f32⟩
  | 81 => ⟨S2x1x1, .f32⟩
  | 82 => ⟨S2x1, .f32⟩
  | 83 => ⟨S2x1x1, .f32⟩
  | 84 => ⟨S2x1x1, .f32⟩
  | 85 => ⟨S2x1, .f32⟩
  | 86 => ⟨S2x1x1, .f32⟩
  | 87 => ⟨S2x1x1, .f32⟩
  | 88 => ⟨S2x1280x1, .f32⟩
  | 89 => ⟨S2x1280, .f32⟩
  | 90 => ⟨S2x1x1280, .f32⟩
  | 91 => ⟨S2x1280x1, .f32⟩
  | 92 => ⟨S2x1280, .f32⟩
  | 93 => ⟨S2x1x1280, .f32⟩
  | 94 => ⟨S2x1x1280, .f32⟩
  | 95 => ⟨S2x1x1280, .f32⟩
  | 96 => ⟨S2x1x1280, .f32⟩
  | 97 => ⟨S2x1x1280, .f32⟩
  | 98 => ⟨S2x1x1280, .f32⟩
  | 99 => ⟨S2x1280, .f32⟩
  | 100 => ⟨S_, .f32⟩
  | 101 => ⟨S2x1280, .f32⟩
  | 102 => ⟨S2x1280, .f32⟩
  | 103 => ⟨S2x1280, .f32⟩
  | 104 => ⟨S2x1280, .f32⟩
  | 105 => ⟨S_, .f32⟩
  | 106 => ⟨S2x1280, .f32⟩
  | 107 => ⟨S2x1280, .f32⟩
  | 108 => ⟨S_, .i32⟩
  | 109 => ⟨S1280, .i32⟩
  | 110 => ⟨S1280, .i1⟩
  | 111 => ⟨S_, .f32⟩
  | 112 => ⟨S2x1, .f32⟩
  | 113 => ⟨S2x1, .i1⟩
  | 114 => ⟨S1x1280, .i1⟩
  | 115 => ⟨S2x1280, .i1⟩
  | 116 => ⟨S2x1280, .i1⟩
  | 117 => ⟨S2x1280, .i1⟩
  | 118 => ⟨S_, .f32⟩
  | 119 => ⟨S_, .f32⟩
  | 120 => ⟨S2x1280, .f32⟩
  | 121 => ⟨S2x1280, .f32⟩
  | 122 => ⟨S2x1280x1, .f32⟩
  | 123 => ⟨S2x1280, .f32⟩
  | 124 => ⟨S2x1280, .f32⟩
  | 125 => ⟨S2x1280x1, .f32⟩
  | 126 => ⟨S2x1280x6, .f32⟩
  | 127 => ⟨S2x1280x7, .f32⟩
  | _ => ⟨S2x125x16x16, .f32⟩

abbrev hbmTy0_2 (i : Nat) : BufTy := match i % 128 with
  | 0 => ⟨S_, .i32⟩
  | 1 => ⟨S_, .i32⟩
  | _ => ⟨S2x125x16x16, .f32⟩

abbrev hbmTy (i : Nat) : BufTy := match i / 128 with
  | 0 => hbmTy0_0 i
  | 1 => hbmTy0_1 i
  | 2 => hbmTy0_2 i
  | _ => ⟨S2x125x16x16, .f32⟩

abbrev bufTy : (tb : Table) → Fin (tcTables nBuf tb) → BufTy
  | .hbm, ⟨i, _⟩ => hbmTy i
  | _, _ => ⟨S2x125x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_cst : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_cst_0 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_cst_1 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_cst_3 : Ref sig .tc := ⟨.hbm, 45, rfl⟩
abbrev main_v40 : Ref sig .tc := ⟨.hbm, 46, rfl⟩
abbrev main_cst_4 : Ref sig .tc := ⟨.hbm, 47, rfl⟩
abbrev main_v41 : Ref sig .tc := ⟨.hbm, 48, rfl⟩
abbrev main_cst_5 : Ref sig .tc := ⟨.hbm, 49, rfl⟩
abbrev main_v42 : Ref sig .tc := ⟨.hbm, 50, rfl⟩
abbrev main_v43 : Ref sig .tc := ⟨.hbm, 51, rfl⟩
abbrev main_cst_6 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_7 : Ref sig .tc := ⟨.hbm, 61, rfl⟩
abbrev main_v52 : Ref sig .tc := ⟨.hbm, 62, rfl⟩
abbrev main_cst_8 : Ref sig .tc := ⟨.hbm, 63, rfl⟩
abbrev main_v53 : Ref sig .tc := ⟨.hbm, 64, rfl⟩
abbrev main_cst_9 : Ref sig .tc := ⟨.hbm, 65, rfl⟩
abbrev main_v54 : Ref sig .tc := ⟨.hbm, 66, rfl⟩
abbrev main_cst_10 : Ref sig .tc := ⟨.hbm, 67, rfl⟩
abbrev main_v55 : Ref sig .tc := ⟨.hbm, 68, rfl⟩
abbrev main_cst_11 : Ref sig .tc := ⟨.hbm, 69, rfl⟩
abbrev main_v56 : Ref sig .tc := ⟨.hbm, 70, rfl⟩
abbrev main_v57 : Ref sig .tc := ⟨.hbm, 71, rfl⟩
abbrev main_cst_12 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_13 : Ref sig .tc := ⟨.hbm, 87, rfl⟩
abbrev main_v72 : Ref sig .tc := ⟨.hbm, 88, rfl⟩
abbrev main_values : Ref sig .tc := ⟨.hbm, 89, rfl⟩
abbrev main_indices : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_call0_v0 : Ref sig .tc := ⟨.hbm, 100, rfl⟩
abbrev main_call0_v1_0 : Ref sig .tc := ⟨.hbm, 101, rfl⟩
abbrev main_v82 : Ref sig .tc := ⟨.hbm, 102, rfl⟩
abbrev main_c : Ref sig .tc := ⟨.hbm, 103, rfl⟩
abbrev main_v83 : Ref sig .tc := ⟨.hbm, 104, rfl⟩
abbrev main_v84 : Ref sig .tc := ⟨.hbm, 105, rfl⟩
abbrev main_c_14 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c_15 : Ref sig .tc := ⟨.hbm, 113, rfl⟩
abbrev main_c_16 : Ref sig .tc := ⟨.hbm, 114, rfl⟩
abbrev main_v91_0 : Ref sig .tc := ⟨.hbm, 115, rfl⟩
abbrev main_v91_1 : Ref sig .tc := ⟨.hbm, 116, rfl⟩
abbrev main_v91_2 : Ref sig .tc := ⟨.hbm, 117, rfl⟩
abbrev main_v91_3 : Ref sig .tc := ⟨.hbm, 118, rfl⟩
abbrev main_while0c_c_20 : Ref sig .tc := ⟨.hbm, 119, rfl⟩
abbrev main_while0c_v92 : Ref sig .tc := ⟨.hbm, 120, rfl⟩
abbrev main_while0b_c_20 : Ref sig .tc := ⟨.hbm, 121, rfl⟩
abbrev main_while0b_v92 : Ref sig .tc := ⟨.hbm, 122, rfl⟩
abbrev main_while0b_c_21 : Ref sig .tc := ⟨.hbm, 123, rfl⟩
abbrev main_while0b_v93 : Ref sig .tc := ⟨.hbm, 124, rfl⟩
abbrev main_while0b_v94 : Ref sig .tc := ⟨.hbm, 125, rfl⟩
abbrev main_while0b_c_22 : Ref sig .tc := ⟨.hbm, 126, rfl⟩
abbrev main_while0b_v95 : Ref sig .tc := ⟨.hbm, 127, rfl⟩
abbrev main_while0b_v96 : Ref sig .tc := ⟨.hbm, 128, rfl⟩
abbrev main_while0b_c_23 : Ref sig .tc := ⟨.hbm, 129, rfl⟩
abbrev main_while0b_c_24 : Ref sig .tc := ⟨.hbm, 130, rfl⟩
abbrev main_while0b_v97 : Ref sig .tc := ⟨.hbm, 131, rfl⟩
abbrev main_while0b_v98 : Ref sig .tc := ⟨.hbm, 132, rfl⟩
abbrev main_while0b_v99 : Ref sig .tc := ⟨.hbm, 133, rfl⟩
abbrev main_while0b_v100 : Ref sig .tc := ⟨.hbm, 134, rfl⟩
abbrev main_while0b_v101 : Ref sig .tc := ⟨.hbm, 135, rfl⟩
abbrev main_while0b_v102 : Ref sig .tc := ⟨.hbm, 136, rfl⟩
abbrev main_while0b_v103 : Ref sig .tc := ⟨.hbm, 137, rfl⟩
abbrev main_while0b_v104 : Ref sig .tc := ⟨.hbm, 138, rfl⟩
abbrev main_while0b_v105 : Ref sig .tc := ⟨.hbm, 139, rfl⟩
abbrev main_while0b_v106 : Ref sig .tc := ⟨.hbm, 140, rfl⟩
abbrev main_while0b_v107 : Ref sig .tc := ⟨.hbm, 141, rfl⟩
abbrev main_while0b_v108 : Ref sig .tc := ⟨.hbm, 142, rfl⟩
abbrev main_while0b_v109 : Ref sig .tc := ⟨.hbm, 143, rfl⟩
abbrev main_while0b_cst_25 : Ref sig .tc := ⟨.hbm, 144, rfl⟩
abbrev main_while0b_v110 : Ref sig .tc := ⟨.hbm, 145, rfl⟩
abbrev main_while0b_v111 : Ref sig .tc := ⟨.hbm, 146, rfl⟩
abbrev main_while0b_v112 : Ref sig .tc := ⟨.hbm, 147, rfl⟩
abbrev main_while0b_cst_26 : Ref sig .tc := ⟨.hbm, 148, rfl⟩
abbrev main_while0b_v113 : Ref sig .tc := ⟨.hbm, 149, rfl⟩
abbrev main_while0b_v114 : Ref sig .tc := ⟨.hbm, 150, rfl⟩
abbrev main_while0b_v115 : Ref sig .tc := ⟨.hbm, 151, rfl⟩
abbrev main_while0b_cst_27 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_cst_28 : Ref sig .tc := ⟨.hbm, 156, rfl⟩
abbrev main_while0b_v119 : Ref sig .tc := ⟨.hbm, 157, rfl⟩
abbrev main_while0b_v120 : Ref sig .tc := ⟨.hbm, 158, rfl⟩
abbrev main_while0b_v121 : Ref sig .tc := ⟨.hbm, 159, rfl⟩
abbrev main_while0b_v122 : Ref sig .tc := ⟨.hbm, 160, rfl⟩
abbrev main_while0b_v123 : Ref sig .tc := ⟨.hbm, 161, rfl⟩
abbrev main_while0b_v124 : Ref sig .tc := ⟨.hbm, 162, rfl⟩
abbrev main_while0b_v125 : Ref sig .tc := ⟨.hbm, 163, rfl⟩
abbrev main_while0b_v126 : Ref sig .tc := ⟨.hbm, 164, rfl⟩
abbrev main_while0b_v127 : Ref sig .tc := ⟨.hbm, 165, rfl⟩
abbrev main_while0b_v128 : Ref sig .tc := ⟨.hbm, 166, rfl⟩
abbrev main_while0b_v129 : Ref sig .tc := ⟨.hbm, 167, rfl⟩
abbrev main_while0b_cst_29 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_cst_30 : Ref sig .tc := ⟨.hbm, 172, rfl⟩
abbrev main_while0b_v133 : Ref sig .tc := ⟨.hbm, 173, rfl⟩
abbrev main_while0b_v134 : Ref sig .tc := ⟨.hbm, 174, rfl⟩
abbrev main_while0b_v135 : Ref sig .tc := ⟨.hbm, 175, rfl⟩
abbrev main_while0b_cst_31 : Ref sig .tc := ⟨.hbm, 176, rfl⟩
abbrev main_while0b_v136 : Ref sig .tc := ⟨.hbm, 177, rfl⟩
abbrev main_while0b_v137 : Ref sig .tc := ⟨.hbm, 178, rfl⟩
abbrev main_while0b_v138 : Ref sig .tc := ⟨.hbm, 179, rfl⟩
abbrev main_while0b_cst_32 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_v143 : Ref sig .tc := ⟨.hbm, 185, rfl⟩
abbrev main_while0b_v144 : Ref sig .tc := ⟨.hbm, 186, rfl⟩
abbrev main_while0b_v145 : Ref sig .tc := ⟨.hbm, 187, rfl⟩
abbrev main_while0b_v146 : Ref sig .tc := ⟨.hbm, 188, rfl⟩
abbrev main_while0b_v147 : Ref sig .tc := ⟨.hbm, 189, rfl⟩
abbrev main_while0b_v148 : Ref sig .tc := ⟨.hbm, 190, rfl⟩
abbrev main_while0b_v149 : Ref sig .tc := ⟨.hbm, 191, rfl⟩
abbrev main_while0b_v150 : Ref sig .tc := ⟨.hbm, 192, rfl⟩
abbrev main_while0b_v151 : Ref sig .tc := ⟨.hbm, 193, rfl⟩
abbrev main_while0b_v152 : Ref sig .tc := ⟨.hbm, 194, rfl⟩
abbrev main_while0b_v153 : Ref sig .tc := ⟨.hbm, 195, rfl⟩
abbrev main_while0b_v154 : Ref sig .tc := ⟨.hbm, 196, rfl⟩
abbrev main_while0b_v155 : Ref sig .tc := ⟨.hbm, 197, rfl⟩
abbrev main_while0b_v156 : Ref sig .tc := ⟨.hbm, 198, rfl⟩
abbrev main_while0b_v157 : Ref sig .tc := ⟨.hbm, 199, rfl⟩
abbrev main_while0b_v158 : Ref sig .tc := ⟨.hbm, 200, rfl⟩
abbrev main_while0b_cst_33 : Ref sig .tc := ⟨.hbm, 201, rfl⟩
abbrev main_while0b_v159 : Ref sig .tc := ⟨.hbm, 202, rfl⟩
abbrev main_while0b_v160 : Ref sig .tc := ⟨.hbm, 203, rfl⟩
abbrev main_while0b_v161 : Ref sig .tc := ⟨.hbm, 204, rfl⟩
abbrev main_while0b_cst_34 : Ref sig .tc := ⟨.hbm, 205, rfl⟩
abbrev main_while0b_v162 : Ref sig .tc := ⟨.hbm, 206, rfl⟩
abbrev main_while0b_v163 : Ref sig .tc := ⟨.hbm, 207, rfl⟩
abbrev main_while0b_v164 : Ref sig .tc := ⟨.hbm, 208, rfl⟩
abbrev main_while0b_v165 : Ref sig .tc := ⟨.hbm, 209, rfl⟩
abbrev main_while0b_v166 : Ref sig .tc := ⟨.hbm, 210, rfl⟩
abbrev main_while0b_v167 : Ref sig .tc := ⟨.hbm, 211, rfl⟩
abbrev main_while0b_v168 : Ref sig .tc := ⟨.hbm, 212, rfl⟩
abbrev main_while0b_v169 : Ref sig .tc := ⟨.hbm, 213, rfl⟩
abbrev main_while0b_v170 : Ref sig .tc := ⟨.hbm, 214, rfl⟩
abbrev main_while0b_v171 : Ref sig .tc := ⟨.hbm, 215, rfl⟩
abbrev main_while0b_v172 : Ref sig .tc := ⟨.hbm, 216, rfl⟩
abbrev main_while0b_v173 : Ref sig .tc := ⟨.hbm, 217, rfl⟩
abbrev main_while0b_v174 : Ref sig .tc := ⟨.hbm, 218, rfl⟩
abbrev main_while0b_v175 : Ref sig .tc := ⟨.hbm, 219, rfl⟩
abbrev main_while0b_v176 : Ref sig .tc := ⟨.hbm, 220, rfl⟩
abbrev main_while0b_v177 : Ref sig .tc := ⟨.hbm, 221, rfl⟩
abbrev main_while0b_v178 : Ref sig .tc := ⟨.hbm, 222, rfl⟩
abbrev main_while0b_v179 : Ref sig .tc := ⟨.hbm, 223, rfl⟩
abbrev main_while0b_v180 : Ref sig .tc := ⟨.hbm, 224, rfl⟩
abbrev main_while0b_v181 : Ref sig .tc := ⟨.hbm, 225, rfl⟩
abbrev main_while0b_v182 : Ref sig .tc := ⟨.hbm, 226, rfl⟩
abbrev main_while0b_v183 : Ref sig .tc := ⟨.hbm, 227, rfl⟩
abbrev main_while0b_cst_35 : Ref sig .tc := ⟨.hbm, 228, rfl⟩
abbrev main_while0b_v184 : Ref sig .tc := ⟨.hbm, 229, rfl⟩
abbrev main_while0b_v185 : Ref sig .tc := ⟨.hbm, 230, rfl⟩
abbrev main_while0b_v186 : Ref sig .tc := ⟨.hbm, 231, rfl⟩
abbrev main_while0b_v187 : Ref sig .tc := ⟨.hbm, 232, rfl⟩
abbrev main_while0b_cst_36 : Ref sig .tc := ⟨.hbm, 233, rfl⟩
abbrev main_while0b_v188 : Ref sig .tc := ⟨.hbm, 234, rfl⟩
abbrev main_while0b_v189 : Ref sig .tc := ⟨.hbm, 235, rfl⟩
abbrev main_while0b_v190 : Ref sig .tc := ⟨.hbm, 236, rfl⟩
abbrev main_while0b_v191 : Ref sig .tc := ⟨.hbm, 237, rfl⟩
abbrev main_while0b_v192 : Ref sig .tc := ⟨.hbm, 238, rfl⟩
abbrev main_while0b_cst_37 : Ref sig .tc := ⟨.hbm, 239, rfl⟩
abbrev main_while0b_v193 : Ref sig .tc := ⟨.hbm, 240, rfl⟩
abbrev main_while0b_v194 : Ref sig .tc := ⟨.hbm, 241, rfl⟩
abbrev main_while0b_v195 : Ref sig .tc := ⟨.hbm, 242, rfl⟩
abbrev main_while0b_v196 : Ref sig .tc := ⟨.hbm, 243, rfl⟩
abbrev main_while0b_v197 : Ref sig .tc := ⟨.hbm, 244, rfl⟩
abbrev main_while0b_v198 : Ref sig .tc := ⟨.hbm, 245, rfl⟩
abbrev main_while0b_cst_38 : Ref sig .tc := ⟨.hbm, 246, rfl⟩
abbrev main_while0b_call1_v0 : Ref sig .tc := ⟨.hbm, 247, rfl⟩
abbrev main_while0b_call1_v1 : Ref sig .tc := ⟨.hbm, 248, rfl⟩
abbrev main_while0b_v199 : Ref sig .tc := ⟨.hbm, 249, rfl⟩
abbrev main_while0b_v200 : Ref sig .tc := ⟨.hbm, 250, rfl⟩
abbrev main_while0b_v201 : Ref sig .tc := ⟨.hbm, 251, rfl⟩
abbrev main_while0b_v202 : Ref sig .tc := ⟨.hbm, 252, rfl⟩
abbrev main_while0b_v203 : Ref sig .tc := ⟨.hbm, 253, rfl⟩
abbrev main_while0b_v204 : Ref sig .tc := ⟨.hbm, 254, rfl⟩
abbrev main_while0b_v205 : Ref sig .tc := ⟨.hbm, 255, rfl⟩
abbrev main_while0b_c_39 : Ref sig .tc := ⟨.hbm, 256, rfl⟩
abbrev main_while0b_v206 : Ref sig .tc := ⟨.hbm, 257, rfl⟩

abbrev nD : Nat := 1
abbrev τ : Topo := Topo.v7x

variable {F : FTy → Type} [FloatOps F]

abbrev main_while0_count : Scf.Loop 32 := ⟨0#32, 1280#32, 1#32⟩
-- ==== Proof.TextIdeal.lean ====
module

public import proofs.«01_k».proof.Proof.Gen.KernelIdeal

@[expose] public section

set_option maxRecDepth 65536

noncomputable section

/-!
# The kernel's text, with its repetitions folded

The printed kernel spells out five anchors, ten blocks of ranks, ten stores of selection rows, ten suppression
blocks and ten conditional sweeps of 128 steps each. Here each of these is written once, as a function of the
anchor or of the block, and the printed kernel is shown to be the folded one.
-/

namespace Cert.KernelIdeal.Hand

open Idealize.ShloMosaic Idealize.SL.Sem
open Cert.KernelIdeal.Gen

variable {F : FTy → Type} [FloatOps F]

/-! ## Side conditions of the slices, for every block -/

/-- The rectangle of one row of the diagonal scratch lies inside it. -/
theorem inb_diag (r : Nat) (h : r < 1280) : ∀ a, (![r, 0] : Fin 2 → Nat) a + S1x128.size a ≤ S1280x128.size a := by
  intro a; match a with
  | 0 => exact h
  | 1 => exact Nat.le_refl _

/-- The rectangle of 128 rows of the diagonal scratch lies inside it. -/
theorem inb_diagBlk (r : Nat) (h : r + 128 ≤ 1280) : ∀ a, (![r, 0] : Fin 2 → Nat) a + S128x128.size a ≤ S1280x128.size a := by
  intro a; match a with
  | 0 => exact h
  | 1 => exact Nat.le_refl _

/-- The rectangle of one row of the flag scratch lies inside it. -/
theorem inb_supp (r : Nat) (h : r < 10) : ∀ a, (![r, 0] : Fin 2 → Nat) a + S1x128.size a ≤ S10x128.size a := by
  intro a; match a with
  | 0 => exact h
  | 1 => exact Nat.le_refl _

/-- The rectangle of 128 rows of the square scratch lies inside it. -/
theorem inb_rows (r : Nat) (h : r + 128 ≤ 1280) : ∀ a, (![r, 0] : Fin 2 → Nat) a + S128x1280.size a ≤ S1280x1280.size a := by
  intro a; match a with
  | 0 => exact h
  | 1 => exact Nat.le_refl _

/-- One cell of a row of 128 is a slice of it. -/
theorem slices_col (i : Nat) (h : i < 128) : S1x128.Slices ![0, i] S1x1 := by
  refine ⟨rfl, fun a => ?_⟩
  match a with
  | 0 => exact Nat.le_refl _
  | 1 => exact h

/-- One channel of the input is a slice of it. -/
theorem slices_row (r : Nat) (h : r < 125) : S125x256.Slices ![r, 0] S1x256 := by
  refine ⟨rfl, fun a => ?_⟩
  match a with
  | 0 => exact h
  | 1 => exact Nat.le_refl _

/-- Twenty channels of the input are a slice of it. -/
theorem slices_cls (r : Nat) (h : r + 20 ≤ 125) : S125x256.Slices ![r, 0] S20x256 := by
  refine ⟨rfl, fun a => ?_⟩
  match a with
  | 0 => exact h
  | 1 => exact Nat.le_refl _

/-- 128 entries of a column of 1280 are a slice of it. -/
theorem slices_colBlk (r : Nat) (h : r + 128 ≤ 1280) : S1280x1.Slices ![r, 0] S128x1 := by
  refine ⟨rfl, fun a => ?_⟩
  match a with
  | 0 => exact h
  | 1 => exact Nat.le_refl _

/-- 128 entries of one of the eight columns are a slice. -/
theorem slices_pack (r k : Nat) (h : r + 128 ≤ 1280) (hk : k < 8) : S1280x8.Slices ![r, k] S128x1 := by
  refine ⟨rfl, fun a => ?_⟩
  match a with
  | 0 => exact h
  | 1 => exact hk

/-- A block's own 128 columns are a slice of its rows. -/
theorem slices_diag (r : Nat) (h : r + 128 ≤ 1280) : S128x1280.Slices ![0, r] S128x128 := by
  refine ⟨rfl, fun a => ?_⟩
  match a with
  | 0 => exact Nat.le_refl _
  | 1 => exact h

/-! ## Decoding -/

/-- The column number of each cell, as a float. -/
def cxOf : FVec F S1x256 .f32 :=
  have v2 : IVec S1x256 32 := iota .tc S1x256 32 [1] iota_S1x256_d1_w32
  have v4 : BitVec 32 := Scalar.select (Scalar.cmpi .eq 16#32 0#32) 1#32 16#32
  have v6 : IVec S1x256 32 := remsi v2 (broadcast S1x256 v4)
  sitofp .f32 (select (andi (xori (cmpi .slt v6 (broadcast S1x256 0#32))
      (broadcastTo S1x256 (broadcast S1x256 (Scalar.cmpi .slt v4 0#32)) broadcasts_S1x256_S1x256))
      (cmpi .ne v6 (broadcast S1x256 0#32))) (addi v6 (broadcast S1x256 v4)) v6)

/-- The row number of each cell, as a float. -/
def cyOf : FVec F S1x256 .f32 :=
  have v2 : IVec S1x256 32 := iota .tc S1x256 32 [1] iota_S1x256_d1_w32
  have v21 : IVec S1x256 32 := divsi v2 (broadcast S1x256 16#32)
  have v28 : IVec S1x256 32 := subi (extui 32 (cmpi .sgt v2 (broadcast S1x256 0#32)) natLt_1_32)
    (extui 32 (cmpi .slt v2 (broadcast S1x256 0#32)) natLt_1_32)
  have v33 : BitVec 32 := Scalar.subi (Scalar.extui (Scalar.cmpi .sgt 16#32 0#32)) (Scalar.extui (Scalar.cmpi .slt 16#32 0#32))
  sitofp .f32 (select (andi (cmpi .ne v28 (broadcast S1x256 v33))
      (cmpi .ne (remsi v2 (broadcast S1x256 16#32)) (broadcast S1x256 0#32))) (subi v21 (broadcast S1x256 1#32)) v21)

/-- One channel of the input. -/
def rowOf (x : FVec F S125x256 .f32) (r : Nat) (h : r < 125) : FVec F S1x256 .f32 :=
  extractStridedSlice S1x256 ![r, 0] x (slices_row r h)

/-- The twenty class channels that begin at channel `r`. -/
def clsOf (x : FVec F S125x256 .f32) (r : Nat) (h : r + 20 ≤ 125) : FVec F S20x256 .f32 :=
  extractStridedSlice S20x256 ![r, 0] x (slices_cls r h)

/-- A box centre: the channel plus the cell number, over the number of cells. -/
def ctrOf (x : FVec F S125x256 .f32) (r : Nat) (h : r < 125) (cell : FVec F S1x256 .f32) : FVec F S1x256 .f32 :=
  divf (addf (rowOf x r h) cell) (broadcast S1x256 (Scalar.ofBits .f32 0x41800000#32))

/-- A box extent: the exponential of the channel times the anchor's extent. -/
def extOf (x : FVec F S125x256 .f32) (r : Nat) (h : r < 125) (lit : BitVec 32) : FVec F S1x256 .f32 :=
  mulf (exp (rowOf x r h)) (broadcast S1x256 (Scalar.ofBits .f32 lit))

/-- The greatest of the twenty class scores. -/
def probOf (x : FVec F S125x256 .f32) (r : Nat) (h : r + 20 ≤ 125) : FVec F S1x256 .f32 :=
  shapeCast S1x256 (multiReduction .maximumf [0] S256 (clsOf x r h) 0xFF800000#32 reduces_S20x256_S256 (.inl rfl) rfl) shapeCasts_S256_S1x256

/-- The first class whose score is the greatest, as a float. -/
def idxOf (x : FVec F S125x256 .f32) (r : Nat) (h : r + 20 ≤ 125) : FVec F S1x256 .f32 :=
  sitofp .f32 (shapeCast S1x256 (multiReductionI .minsi [0] S256
    (select (cmpf .oeq (clsOf x r h) (broadcastTo S20x256 (probOf x r h) broadcasts_S1x256_S20x256))
      (iota .tc S20x256 32 [0] iota_S20x256_d0_w32) (broadcast S20x256 21#32)) 2147483647#32 reduces_S20x256_S256 rfl) shapeCasts_S256_S1x256)

/-- The five anchors' rows, one after the other. -/
def cat5 (f0 f1 f2 f3 f4 : FVec F S1x256 .f32) : FVec F S1x1280 .f32 :=
  concatenate S1x1280 1 [⟨S1x256, f0⟩, ⟨S1x256, f1⟩, ⟨S1x256, f2⟩, ⟨S1x256, f3⟩, ⟨S1x256, f4⟩] concatenates_S1x256_S1x256_S1x256_S1x256_S1x256_S1x1280_d1

/-- The objectness scores of all boxes. -/
def objOf (x : FVec F S125x256 .f32) : FVec F S1x1280 .f32 :=
  cat5 (rowOf x 4 (by decide)) (rowOf x 29 (by decide)) (rowOf x 54 (by decide)) (rowOf x 79 (by decide)) (rowOf x 104 (by decide))

/-- The centre columns of all boxes. -/
def bxOf (x : FVec F S125x256 .f32) : FVec F S1x1280 .f32 :=
  cat5 (ctrOf x 0 (by decide) cxOf) (ctrOf x 25 (by decide) cxOf) (ctrOf x 50 (by decide) cxOf) (ctrOf x 75 (by decide) cxOf) (ctrOf x 100 (by decide) cxOf)

/-- The centre rows of all boxes. -/
def byOf (x : FVec F S125x256 .f32) : FVec F S1x1280 .f32 :=
  cat5 (ctrOf x 1 (by decide) cyOf) (ctrOf x 26 (by decide) cyOf) (ctrOf x 51 (by decide) cyOf) (ctrOf x 76 (by decide) cyOf) (ctrOf x 101 (by decide) cyOf)

/-- The widths of all boxes. -/
def bwOf (x : FVec F S125x256 .f32) : FVec F S1x1280 .f32 :=
  cat5 (extOf x 2 (by decide) 0x3DA93A93#32) (extOf x 27 (by decide) 0x3E4C5604#32) (extOf x 52 (by decide) 0x3EA1C9B0#32) (extOf x 77 (by decide) 0x3F1789B5#32) (extOf x 102 (by decide) 0x3F33C84B#32)

/-- The heights of all boxes. -/
def bhOf (x : FVec F S125x256 .f32) : FVec F S1x1280 .f32 :=
  cat5 (extOf x 3 (by decide) 0x3DDDA027#32) (extOf x 28 (by decide) 0x3E804D55#32) (extOf x 53 (by decide) 0x3F01952D#32) (extOf x 78 (by decide) 0x3E9AE59F#32) (extOf x 103 (by decide) 0x3F201D15#32)

/-- The class numbers of all boxes. -/
def clsIdxOf (x : FVec F S125x256 .f32) : FVec F S1x1280 .f32 :=
  cat5 (idxOf x 5 (by decide)) (idxOf x 30 (by decide)) (idxOf x 55 (by decide)) (idxOf x 80 (by decide)) (idxOf x 105 (by decide))

/-- The class scores of all boxes. -/
def clsProbOf (x : FVec F S125x256 .f32) : FVec F S1x1280 .f32 :=
  cat5 (probOf x 5 (by decide)) (probOf x 30 (by decide)) (probOf x 55 (by decide)) (probOf x 80 (by decide)) (probOf x 105 (by decide))

/-- All boxes, field by field, before sorting. -/
def detOf (x : FVec F S125x256 .f32) : FVec F S8x1280 .f32 :=
  concatenate S8x1280 0 [⟨S1x1280, objOf x⟩, ⟨S1x1280, bxOf x⟩, ⟨S1x1280, byOf x⟩, ⟨S1x1280, bwOf x⟩, ⟨S1x1280, bhOf x⟩, ⟨S1x1280, clsIdxOf x⟩, ⟨S1x1280, clsProbOf x⟩,
    ⟨S1x1280, broadcast S1x1280 (Scalar.ofBits .f32 0x00000000#32)⟩]
    concatenates_S1x1280_S1x1280_S1x1280_S1x1280_S1x1280_S1x1280_S1x1280_S1x1280_S8x1280_d0

/-! ## Ranks and sorting -/

/-- One where the flag is set, zero elsewhere. -/
def flags {s : Shape} (b : IVec s 1) : FVec F s .f32 :=
  select b (broadcast s (Scalar.ofBits .f32 0x3F800000#32)) (broadcast s (Scalar.ofBits .f32 0x00000000#32))

/-- The row numbers of a block of rows. -/
def rowIota (base : Nat) : IVec S128x1280 32 :=
  addi (broadcast S128x1280 (BitVec.ofNat 32 base)) (iota .tc S128x1280 32 [0] iota_S128x1280_d0_w32)

/-- The column numbers of a block of rows. -/
def colIota : IVec S128x1280 32 := iota .tc S128x1280 32 [1] iota_S128x1280_d1_w32

/-- The ranks of 128 boxes: how many boxes come before each. -/
def rankBlk (obj : FVec F S1x1280 .f32) (base : Nat) (h : base + 128 ≤ 1280) : FVec F S128x1 .f32 :=
  have mine : FVec F S128x1280 .f32 := broadcastTo S128x1280 (extractStridedSlice S128x1 ![base, 0] (transpose S1280x1 [1, 0] obj transposes_S1x1280_p1_0_S1280x1) (slices_colBlk base h)) broadcasts_S128x1_S128x1280
  have others : FVec F S128x1280 .f32 := broadcastTo S128x1280 obj broadcasts_S1x1280_S128x1280
  shapeCast S128x1 (multiReduction .add [1] S128 (flags (ori (cmpf .ogt others mine) (andi (cmpf .oeq others mine) (cmpi .slt colIota (rowIota base)))))
    0x00000000#32 reduces_S128x1280_S128 (.inl rfl) rfl) shapeCasts_S128_S128x1

/-- The ranks of all boxes. -/
def rankOf (obj : FVec F S1x1280 .f32) : FVec F S1280x1 .f32 :=
  concatenate S1280x1 0 [⟨S128x1, rankBlk obj 0 (by decide)⟩, ⟨S128x1, rankBlk obj 128 (by decide)⟩, ⟨S128x1, rankBlk obj 256 (by decide)⟩,
    ⟨S128x1, rankBlk obj 384 (by decide)⟩, ⟨S128x1, rankBlk obj 512 (by decide)⟩, ⟨S128x1, rankBlk obj 640 (by decide)⟩, ⟨S128x1, rankBlk obj 768 (by decide)⟩,
    ⟨S128x1, rankBlk obj 896 (by decide)⟩, ⟨S128x1, rankBlk obj 1024 (by decide)⟩, ⟨S128x1, rankBlk obj 1152 (by decide)⟩]
    concatenates_S128x1_S128x1_S128x1_S128x1_S128x1_S128x1_S128x1_S128x1_S128x1_S128x1_S1280x1_d0

/-- 128 rows of the selection matrix: row `n` has its one at the rank of box `n`. -/
def hotBlk (rank : FVec F S1280x1 .f32) (base : Nat) (h : base + 128 ≤ 1280) : FVec F S128x1280 .f32 :=
  flags (cmpf .oeq (sitofp .f32 colIota) (broadcastTo S128x1280 (extractStridedSlice S128x1 ![base, 0] rank (slices_colBlk base h)) broadcasts_S128x1_S128x1280))

/-- The boxes in sorted order. -/
def sortedOf (det : FVec F S8x1280 .f32) (S : FVec F S1280x1280 .f32) : FVec F S8x1280 .f32 :=
  matmul dot_S8x1280_S1280x1280_S8x1280_1_0_0_1_n_n none det S (constant S8x1280 .f32 0x00000000#32)

/-! ## Overlaps -/

/-- One field of the sorted boxes. -/
def fieldOf (st : FVec F S8x1280 .f32) (k : Nat) (h : S8x1280.Slices ![k, 0] S1x1280) : FVec F S1x1280 .f32 :=
  extractStridedSlice S1x1280 ![k, 0] st h

/-- Half of a field. -/
def halfOf (w : FVec F S1x1280 .f32) : FVec F S1x1280 .f32 := mulf (broadcast S1x1280 (Scalar.ofBits .f32 0x3F000000#32)) w

/-- The sorted scores. -/
def ssOf (st : FVec F S8x1280 .f32) : FVec F S1x1280 .f32 := fieldOf st 0 slices_S8x1280_o0_0_S1x1280
/-- The sorted centre columns. -/
def sxOf (st : FVec F S8x1280 .f32) : FVec F S1x1280 .f32 := fieldOf st 1 slices_S8x1280_o1_0_S1x1280
/-- The sorted centre rows. -/
def syOf (st : FVec F S8x1280 .f32) : FVec F S1x1280 .f32 := fieldOf st 2 slices_S8x1280_o2_0_S1x1280
/-- The sorted widths. -/
def swOf (st : FVec F S8x1280 .f32) : FVec F S1x1280 .f32 := fieldOf st 3 slices_S8x1280_o3_0_S1x1280
/-- The sorted heights. -/
def shOf (st : FVec F S8x1280 .f32) : FVec F S1x1280 .f32 := fieldOf st 4 slices_S8x1280_o4_0_S1x1280
/-- The left edges. -/
def lxOf (st : FVec F S8x1280 .f32) : FVec F S1x1280 .f32 := subf (sxOf st) (halfOf (swOf st))
/-- The right edges. -/
def rxOf (st : FVec F S8x1280 .f32) : FVec F S1x1280 .f32 := addf (sxOf st) (halfOf (swOf st))
/-- The upper edges. -/
def uyOf (st : FVec F S8x1280 .f32) : FVec F S1x1280 .f32 := subf (syOf st) (halfOf (shOf st))
/-- The lower edges. -/
def dyOf (st : FVec F S8x1280 .f32) : FVec F S1x1280 .f32 := addf (syOf st) (halfOf (shOf st))
/-- The areas. -/
def areaOf (st : FVec F S8x1280 .f32) : FVec F S1x1280 .f32 := mulf (swOf st) (shOf st)

/-- How many scores are above zero. -/
def nposOf (st : FVec F S8x1280 .f32) : BitVec 32 :=
  Scalar.fptosi 32 (extractAt ![0, 0, 0] (shapeCast S1x1x1 (multiReduction .add [1, 2] S1
    (shapeCast S1x1x1280 (flags (cmpf .ogt (ssOf st) (broadcast S1x1280 (Scalar.ofBits .f32 0x00000000#32)))) shapeCasts_S1x1280_S1x1x1280)
    0x00000000#32 reduces_S1x1x1280_S1 (.inl rfl) rfl) shapeCasts_S1_S1x1x1) inpos_S1x1x1_p0_0_0 : F .f32)

/-- The edges and areas as columns. -/
def packOf (st : FVec F S8x1280 .f32) : FVec F S1280x8 .f32 :=
  transpose S1280x8 [1, 0] (concatenate S8x1280 0 [⟨S1x1280, lxOf st⟩, ⟨S1x1280, rxOf st⟩, ⟨S1x1280, uyOf st⟩, ⟨S1x1280, dyOf st⟩, ⟨S1x1280, areaOf st⟩,
    ⟨S3x1280, broadcast S3x1280 (Scalar.ofBits .f32 0x00000000#32)⟩] concatenates_S1x1280_S1x1280_S1x1280_S1x1280_S1x1280_S3x1280_S8x1280_d0) transposes_S8x1280_p1_0_S1280x8

/-- One packed column over a block's rows, spread along the rows. -/
def mineOf (st : FVec F S8x1280 .f32) (base : Nat) (h : base + 128 ≤ 1280) (k : Nat) (hk : k < 8) : FVec F S128x1280 .f32 :=
  broadcastTo S128x1280 (extractStridedSlice S128x1 ![base, k] (packOf st) (slices_pack base k h hk)) broadcasts_S128x1_S128x1280

/-- A row of all boxes, repeated for each of the block's rows. -/
def allOf (r : FVec F S1x1280 .f32) : FVec F S128x1280 .f32 := broadcastTo S128x1280 r broadcasts_S1x1280_S128x1280

/-- The overlapping area of each of the block's boxes with every box. -/
def interOf (st : FVec F S8x1280 .f32) (base : Nat) (h : base + 128 ≤ 1280) : FVec F S128x1280 .f32 :=
  mulf (maximumf (subf (minimumf (mineOf st base h 1 (by decide)) (allOf (rxOf st))) (maximumf (mineOf st base h 0 (by decide)) (allOf (lxOf st)))) (broadcast S128x1280 (Scalar.ofBits .f32 0x00000000#32)))
    (maximumf (subf (minimumf (mineOf st base h 3 (by decide)) (allOf (dyOf st))) (maximumf (mineOf st base h 2 (by decide)) (allOf (uyOf st)))) (broadcast S128x1280 (Scalar.ofBits .f32 0x00000000#32)))

/-- The overlap ratio of each of the block's boxes with every box. -/
def iouOf (st : FVec F S8x1280 .f32) (base : Nat) (h : base + 128 ≤ 1280) : FVec F S128x1280 .f32 :=
  divf (interOf st base h) (subf (addf (mineOf st base h 4 (by decide)) (allOf (areaOf st))) (interOf st base h))

/-- Which boxes each of the block's boxes suppresses while it lives. -/
def supBlk (st : FVec F S8x1280 .f32) (base : Nat) (h : base + 128 ≤ 1280) : FVec F S128x1280 .f32 :=
  flags (andi (andi (cmpf .oge (iouOf st base h) (broadcast S128x1280 (Scalar.ofBits .f32 0x3EE66666#32))) (cmpi .sgt colIota (rowIota base)))
    (cmpi .slt (rowIota base) (broadcast S128x1280 (nposOf st))))

/-- The block's own square of `supBlk`. -/
def diagBlk (st : FVec F S8x1280 .f32) (base : Nat) (h : base + 128 ≤ 1280) : FVec F S128x128 .f32 :=
  extractStridedSlice S128x128 ![0, base] (supBlk st base h) (slices_diag base h)

/-- How many blocks have a row whose score is above zero. -/
def nblkOf (npos : BitVec 32) : BitVec 32 :=
  have v988 : BitVec 32 := Scalar.addi npos 127#32
  have v989 : BitVec 32 := Scalar.divsi v988 128#32
  have v994 : BitVec 32 := Scalar.subi (Scalar.extui (Scalar.cmpi .sgt v988 0#32)) (Scalar.extui (Scalar.cmpi .slt v988 0#32))
  have v999 : BitVec 32 := Scalar.subi (Scalar.extui (Scalar.cmpi .sgt 128#32 0#32)) (Scalar.extui (Scalar.cmpi .slt 128#32 0#32))
  Scalar.select (Scalar.andi (Scalar.cmpi .ne v994 v999) (Scalar.cmpi .ne (Scalar.remsi v988 128#32) 0#32)) (Scalar.subi v989 1#32) v989

/-! ## The sweep -/

/-- One step of the sweep inside a block: if cell `i` of the running row is still clear, the row takes the maximum with row
`i` of the block's square. -/
def nmsStep (i : Nat) (h : i < 128) (sb row : FVec F S1x128 .f32) : FVec F S1x128 .f32 :=
  select (broadcastTo S1x128 (shapeCast S1x1 (cmpf .olt (extractStridedSlice S1x1 ![0, i] sb (slices_col i h)) (broadcast S1x1 (Scalar.ofBits .f32 0x3F000000#32))) shapeCasts_S1x1_S1x1) broadcasts_S1x1_S1x128) (maximumf sb row) sb

/-- What a finished block adds: its living rows' flags against the block's rows of the square scratch. -/
def nmsContrib (sb : FVec F S1x128 .f32) (rows : FVec F S128x1280 .f32) (supp : FVec F S10x128 .f32) : FVec F S10x128 .f32 :=
  maximumf supp (flags (cmpf .ogt (shapeCast S10x128 (matmul dot_S1x128_S128x1280_S1x1280_1_0_0_1_n_n none
      (flags (cmpf .olt sb (broadcast S1x128 (Scalar.ofBits .f32 0x3F000000#32))))
      rows (constant S1x1280 .f32 0x00000000#32)) shapeCasts_S1x1280_S10x128) (broadcast S10x128 (Scalar.ofBits .f32 0x00000000#32))))

/-- The scores that survive. -/
def keptOf (st : FVec F S8x1280 .f32) (supp : FVec F S10x128 .f32) : FVec F S1x1280 .f32 :=
  select (cmpf .oge (shapeCast S1x1280 supp shapeCasts_S10x128_S1x1280) (broadcast S1x1280 (Scalar.ofBits .f32 0x3F000000#32)))
    (broadcast S1x1280 (Scalar.ofBits .f32 0x00000000#32)) (ssOf st)

/-- The block to write: the scores that survive, the sorted fields, and a row of zeros. -/
def outOf (a : FVec F S1x1280 .f32) (b : FVec F S6x1280 .f32) (z : FVec F S1x1280 .f32) : FVec F S1x8x1280 .f32 :=
  shapeCast S1x8x1280 (concatenate S8x1280 0 [⟨S1x1280, a⟩, ⟨S6x1280, b⟩, ⟨S1x1280, z⟩] concatenates_S1x1280_S6x1280_S1x1280_S8x1280_d0) shapeCasts_S8x1280_S1x8x1280

/-! ## The programs -/

/-- The stores of `n` blocks of selection rows from block `kb` on. -/
def storeHots (arg3 : Memref sig .tc .vmem S1280x1280 .f32) (rank : FVec F S1280x1 .f32) : (n kb : Nat) → kb + n ≤ 10 → Prog (TpuEff nD τ sig (Elt F) Λ₀ .tc) PUnit
  | 0, _, _ => .ret ⟨⟩
  | n + 1, kb, hn => .op (.load arg3 (Rect.unit (s := S1280x1280) ![128 * kb, 0] S128x1280.size (inb_rows _ (by omega))).toLoadRect (View.loadsAt_vmem h_S128x1280)) fun _ =>
      .op (.store arg3 (Rect.unit (s := S1280x1280) ![128 * kb, 0] S128x1280.size (inb_rows _ (by omega)))
        (shapeCast S128x1280 (hotBlk rank (128 * kb) (by omega)) shapeCasts_S128x1280_S128x1280) Finset.univ (View.stores_vmem_bits_univ h_S128x1280 rfl) (.inl rfl)) fun _ =>
      storeHots arg3 rank n (kb + 1) (by omega)

/-- The stores of `n` blocks of suppression rows and their squares from block `kb` on. -/
def storeSups (arg3 : Memref sig .tc .vmem S1280x1280 .f32) (arg4 : Memref sig .tc .vmem S1280x128 .f32) (st : FVec F S8x1280 .f32) : (n kb : Nat) → kb + n ≤ 10 → Prog (TpuEff nD τ sig (Elt F) Λ₀ .tc) PUnit
  | 0, _, _ => .ret ⟨⟩
  | n + 1, kb, hn => .op (.load arg3 (Rect.unit (s := S1280x1280) ![128 * kb, 0] S128x1280.size (inb_rows _ (by omega))).toLoadRect (View.loadsAt_vmem h_S128x1280)) fun _ =>
      .op (.store arg3 (Rect.unit (s := S1280x1280) ![128 * kb, 0] S128x1280.size (inb_rows _ (by omega)))
        (shapeCast S128x1280 (supBlk st (128 * kb) (by omega)) shapeCasts_S128x1280_S128x1280) Finset.univ (View.stores_vmem_bits_univ h_S128x1280 rfl) (.inl rfl)) fun _ =>
      .op (.load arg4 (Rect.unit (s := S1280x128) ![128 * kb, 0] S128x128.size (inb_diagBlk _ (by omega))).toLoadRect (View.loadsAt_vmem h_S128x128)) fun _ =>
      .op (.store arg4 (Rect.unit (s := S1280x128) ![128 * kb, 0] S128x128.size (inb_diagBlk _ (by omega)))
        (shapeCast S128x128 (diagBlk st (128 * kb) (by omega)) shapeCasts_S128x128_S128x128) Finset.univ (View.stores_vmem_bits_univ h_S128x128 rfl) (.inl rfl)) fun _ =>
      storeSups arg3 arg4 st n (kb + 1) (by omega)

/-- The last `n` steps of the sweep inside the block whose first row is `base`. -/
def nmsLoop (arg4 : Memref sig .tc .vmem S1280x128 .f32) (base : Nat) (hb : base + 128 ≤ 1280) :
    Nat → FVec F S1x128 .f32 → Prog (TpuEff nD τ sig (Elt F) Λ₀ .tc) (FVec F S1x128 .f32)
  | 0, sb => .ret sb
  | n + 1, sb => .op (.load arg4 (Rect.unit (s := S1280x128) ![base + (127 - n), 0] S1x128.size (inb_diag _ (by omega))).toLoadRect (View.loadsAt_vmem h_S1x128))
      fun row => nmsLoop arg4 base hb n (nmsStep (127 - n) (by omega) sb row)

/-- One block of the sweep. -/
def nmsBlock (arg3 : Memref sig .tc .vmem S1280x1280 .f32) (arg4 : Memref sig .tc .vmem S1280x128 .f32) (arg5 : Memref sig .tc .vmem S10x128 .f32)
    (kb : Nat) (hk : kb < 10) : Prog (TpuEff nD τ sig (Elt F) Λ₀ .tc) PUnit := do
  let sb0 : Vec F S1x128 .f32 ← Prog.lift (.load arg5 (Rect.unit (s := S10x128) ![kb, 0] S1x128.size (inb_supp kb hk)).toLoadRect (View.loadsAt_vmem h_S1x128))
  let sb ← nmsLoop arg4 (128 * kb) (by omega) 128 sb0
  let rows : Vec F S128x1280 .f32 ← Prog.lift (.load arg3 (Rect.unit (s := S1280x1280) ![128 * kb, 0] S128x1280.size (inb_rows (128 * kb) (by omega))).toLoadRect (View.loadsAt_vmem h_S128x1280))
  let supp : Vec F S10x128 .f32 ← Prog.lift (.load arg5 (Rect.unit (s := S10x128) ![0, 0] S10x128.size inb_S10x128_S10x128_0_0).toLoadRect (View.loadsAt_vmem h_S10x128))
  let _ : Vec F S10x128 .f32 ← Prog.lift (.load arg5 (Rect.unit (s := S10x128) ![0, 0] S10x128.size inb_S10x128_S10x128_0_0).toLoadRect (View.loadsAt_vmem h_S10x128))
  Prog.lift (.store arg5 (Rect.unit (s := S10x128) ![0, 0] S10x128.size inb_S10x128_S10x128_0_0) (shapeCast S10x128 (nmsContrib sb rows supp) shapeCasts_S10x128_S10x128) Finset.univ (View.stores_vmem_bits_univ h_S10x128 rfl) (.inl rfl))

/-- The bit that says block `kb` is swept. -/
def liveBit (nb : BitVec 32) (kb : Nat) : BitVec 1 := Scalar.cmpi .ne (Scalar.extui (Scalar.cmpi .sgt nb (BitVec.ofNat 32 kb)) : BitVec 32) 0#32

/-- `n` conditional blocks from block `kb` on, then `k`. -/
def nmsSweep {α : Type} (arg3 : Memref sig .tc .vmem S1280x1280 .f32) (arg4 : Memref sig .tc .vmem S1280x128 .f32) (arg5 : Memref sig .tc .vmem S10x128 .f32)
    (nb : BitVec 32) (k : Prog (TpuEff nD τ sig (Elt F) Λ₀ .tc) α) : (n kb : Nat) → kb + n ≤ 10 → Prog (TpuEff nD τ sig (Elt F) Λ₀ .tc) α
  | 0, _, _ => k
  | n + 1, kb, h => if liveBit nb kb = 1#1 then nmsBlock arg3 arg4 arg5 kb (by omega) >>= fun _ => nmsSweep arg3 arg4 arg5 nb k n (kb + 1) (by omega)
      else nmsSweep arg3 arg4 arg5 nb k n (kb + 1) (by omega)

/-- Blocks 2 to 9 of the sweep, then the flags are read and the rows of the result are returned. -/
def sweepRest (arg3 : Memref sig .tc .vmem S1280x1280 .f32) (arg4 : Memref sig .tc .vmem S1280x128 .f32) (arg5 : Memref sig .tc .vmem S10x128 .f32)
    (st : FVec F S8x1280 .f32) (nb c2 : BitVec 32) : Prog (TpuEff nD τ sig (Elt F) Λ₀ .tc) (Σ' (v1045 : FVec F S1x1280 .f32) (v1046 : FVec F S6x1280 .f32), FVec F S1x1280 .f32) :=
  have k : Prog (TpuEff nD τ sig (Elt F) Λ₀ .tc) (Σ' (v1045 : FVec F S1x1280 .f32) (v1046 : FVec F S6x1280 .f32), FVec F S1x1280 .f32) :=
    .op (.load arg5 (Rect.unit (s := S10x128) ![0, 0] S10x128.size inb_S10x128_S10x128_0_0).toLoadRect (View.loadsAt_vmem h_S10x128)) fun (supp : Vec F S10x128 .f32) =>
      .ret ⟨keptOf st supp, extractStridedSlice S6x1280 ![1, 0] st slices_S8x1280_o1_0_S6x1280, broadcast S1x1280 (Scalar.ofBits .f32 0x00000000#32)⟩
  if Scalar.cmpi .ne (Scalar.extui (Scalar.cmpi .sgt nb c2) : BitVec 32) 0#32 = 1#1 then nmsBlock arg3 arg4 arg5 2 (by decide) >>= fun _ => nmsSweep arg3 arg4 arg5 nb k 7 3 (by decide)
    else nmsSweep arg3 arg4 arg5 nb k 7 3 (by decide)

/-- The block is written. -/
def finish (arg2 : Memref sig .tc .vmem S1x8x1280 .f32) (a : FVec F S1x1280 .f32) (b : FVec F S6x1280 .f32) (z : FVec F S1x1280 .f32) : Prog (TpuEff nD τ sig (Elt F) Λ₀ .tc) PUnit := do
  let _ : Vec F S1x8x1280 .f32 ← Prog.lift (.load arg2 (Rect.unit (s := S1x8x1280) ![0, 0, 0] S1x8x1280.size inb_S1x8x1280_S1x8x1280_0_0_0).toLoadRect (View.loadsAt_vmem h_S1x8x1280))
  Prog.lift (.store arg2 (Rect.unit (s := S1x8x1280) ![0, 0, 0] S1x8x1280.size inb_S1x8x1280_S1x8x1280_0_0_0) (outOf a b z) Finset.univ (View.stores_vmem_bits_univ h_S1x8x1280 rfl) (.inl rfl))

/-- The flags cleared, and blocks 0 and 1 of the sweep. -/
def sweepHead (arg3 : Memref sig .tc .vmem S1280x1280 .f32) (arg4 : Memref sig .tc .vmem S1280x128 .f32) (arg5 : Memref sig .tc .vmem S10x128 .f32)
    (nb : BitVec 32) : Prog (TpuEff nD τ sig (Elt F) Λ₀ .tc) (Σ' (v1005 : BitVec 32), BitVec 32) := do
  let _ : Vec F S10x128 .f32 ← Prog.lift (.load arg5 (Rect.unit (s := S10x128) ![0, 0] S10x128.size inb_S10x128_S10x128_0_0).toLoadRect (View.loadsAt_vmem h_S10x128))
  Prog.lift (.store arg5 (Rect.unit (s := S10x128) ![0, 0] S10x128.size inb_S10x128_S10x128_0_0) (shapeCast S10x128 (broadcast S10x128 (Scalar.ofBits .f32 0x00000000#32)) shapeCasts_S10x128_S10x128) Finset.univ (View.stores_vmem_bits_univ h_S10x128 rfl) (.inl rfl))
  nmsSweep arg3 arg4 arg5 nb (.ret ⟨nb, 2#32⟩) 2 0 (by decide)

/-- The kernel up to the ninth block of suppression rows, then `k` on the sorted boxes. -/
def beforeSweep (arg1 : Memref sig .tc .vmem S1x125x256 .f32) (arg3 : Memref sig .tc .vmem S1280x1280 .f32) (arg4 : Memref sig .tc .vmem S1280x128 .f32)
    (k : FVec F S8x1280 .f32 → Prog (TpuEff nD τ sig (Elt F) Λ₀ .tc) PUnit) : Prog (TpuEff nD τ sig (Elt F) Λ₀ .tc) PUnit := do
  let x : Vec F S1x125x256 .f32 ← Prog.lift (.load arg1 (Rect.unit (s := S1x125x256) ![0, 0, 0] S1x125x256.size inb_S1x125x256_S1x125x256_0_0_0).toLoadRect (View.loadsAt_vmem h_S1x125x256))
  storeHots arg3 (rankOf (objOf (shapeCast S125x256 x shapeCasts_S1x125x256_S125x256))) 10 0 (by decide)
  let S : Vec F S1280x1280 .f32 ← Prog.lift (.load arg3 (Rect.unit (s := S1280x1280) ![0, 0] S1280x1280.size inb_S1280x1280_S1280x1280_0_0).toLoadRect (View.loadsAt_vmem h_S1280x1280))
  storeSups arg3 arg4 (sortedOf (detOf (shapeCast S125x256 x shapeCasts_S1x125x256_S125x256)) S) 9 0 (by decide)
  k (sortedOf (detOf (shapeCast S125x256 x shapeCasts_S1x125x256_S125x256)) S)

/-- The whole kernel, folded. -/
def folded (arg1 : Memref sig .tc .vmem S1x125x256 .f32) (arg2 : Memref sig .tc .vmem S1x8x1280 .f32) (arg3 : Memref sig .tc .vmem S1280x1280 .f32) (arg4 : Memref sig .tc .vmem S1280x128 .f32) (arg5 : Memref sig .tc .vmem S10x128 .f32) : Prog (TpuEff nD τ sig (Elt F) Λ₀ .tc) PUnit :=
  beforeSweep arg1 arg3 arg4 fun st => do
    let h ← (storeSups arg3 arg4 st 1 9 (by decide) >>= fun _ => sweepHead arg3 arg4 arg5 (nblkOf (nposOf st)))
    let r ← sweepRest arg3 arg4 arg5 st h.1 h.2
    finish arg2 r.1 r.2.1 r.2.2

/-- The part of the printed kernel that ends with blocks 0 and 1 of the sweep. -/
theorem head_eq (i : grid0.Coords) (arg1 : Memref sig .tc .vmem S1x125x256 .f32) (harg1 : arg1.IsWhole) (arg2 : Memref sig .tc .vmem S1x8x1280 .f32) (harg2 : arg2.IsWhole) (arg3 : Memref sig .tc .vmem S1280x1280 .f32) (harg3 : arg3.IsWhole) (arg4 : Memref sig .tc .vmem S1280x128 .f32) (harg4 : arg4.IsWhole) (arg5 : Memref sig .tc .vmem S10x128 .f32) (harg5 : arg5.IsWhole) (st : FVec F S8x1280 .f32) :
    k0_part262 (F := F) i arg1 harg1 arg2 harg2 arg3 harg3 arg4 harg4 arg5 harg5 (nposOf st) (supBlk st 1152 (by decide)) = (storeSups arg3 arg4 st 1 9 (by decide) >>= fun _ => sweepHead arg3 arg4 arg5 (nblkOf (nposOf st))) := rfl

/-- The part of the printed kernel that holds blocks 2 to 9 of the sweep. -/
theorem rest_eq (i : grid0.Coords) (arg1 : Memref sig .tc .vmem S1x125x256 .f32) (harg1 : arg1.IsWhole) (arg2 : Memref sig .tc .vmem S1x8x1280 .f32) (harg2 : arg2.IsWhole) (arg3 : Memref sig .tc .vmem S1280x1280 .f32) (harg3 : arg3.IsWhole) (arg4 : Memref sig .tc .vmem S1280x128 .f32) (harg4 : arg4.IsWhole) (arg5 : Memref sig .tc .vmem S10x128 .f32) (harg5 : arg5.IsWhole) (st : FVec F S8x1280 .f32) (nb c2 : BitVec 32) :
    k0_part263 (F := F) i arg1 harg1 arg2 harg2 arg3 harg3 arg4 harg4 arg5 harg5 st (ssOf st) nb c2 = sweepRest arg3 arg4 arg5 st nb c2 := rfl

/-- The printed kernel with its last two parts left as they are. -/
theorem kernel_eq_parts (i : grid0.Coords) (arg1 : Memref sig .tc .vmem S1x125x256 .f32) (harg1 : arg1.IsWhole) (arg2 : Memref sig .tc .vmem S1x8x1280 .f32) (harg2 : arg2.IsWhole) (arg3 : Memref sig .tc .vmem S1280x1280 .f32) (harg3 : arg3.IsWhole) (arg4 : Memref sig .tc .vmem S1280x128 .f32) (harg4 : arg4.IsWhole) (arg5 : Memref sig .tc .vmem S10x128 .f32) (harg5 : arg5.IsWhole) :
    cc0__nms_kernel (F := F) i arg1 harg1 arg2 harg2 arg3 harg3 arg4 harg4 arg5 harg5 = beforeSweep arg1 arg3 arg4 (fun st => do
      let h ← k0_part262 (F := F) i arg1 harg1 arg2 harg2 arg3 harg3 arg4 harg4 arg5 harg5 (nposOf st) (supBlk st 1152 (by decide))
      let r ← k0_part263 (F := F) i arg1 harg1 arg2 harg2 arg3 harg3 arg4 harg4 arg5 harg5 st (ssOf st) h.1 h.2
      finish arg2 r.1 r.2.1 r.2.2) := rfl

/-- The printed kernel is the folded one. -/
theorem kernel_eq_folded (i : grid0.Coords) (arg1 : Memref sig .tc .vmem S1x125x256 .f32) (harg1 : arg1.IsWhole) (arg2 : Memref sig .tc .vmem S1x8x1280 .f32) (harg2 : arg2.IsWhole) (arg3 : Memref sig .tc .vmem S1280x1280 .f32) (harg3 : arg3.IsWhole) (arg4 : Memref sig .tc .vmem S1280x128 .f32) (harg4 : arg4.IsWhole) (arg5 : Memref sig .tc .vmem S10x128 .f32) (harg5 : arg5.IsWhole) :
    cc0__nms_kernel (F := F) i arg1 harg1 arg2 harg2 arg3 harg3 arg4 harg4 arg5 harg5 = folded arg1 arg2 arg3 arg4 arg5 := by
  rw [kernel_eq_parts]
  unfold folded
  simp only [head_eq, rest_eq]

end Cert.KernelIdeal.Hand

end

end
-- ==== Proof.RunIdeal.lean ====
module

public import proofs.«01_k».proof.Proof.TextIdeal
public import proofs.«01_k».proof.Proof.Gen.KernelIdeal.Frame
public import Idealize.ShloMosaic.Lib.VecWindow
public import Idealize.ShloMosaic.Lib.Pipeline.Value

@[expose] public section

set_option maxRecDepth 16384

noncomputable section

/-!
# Running the folded kernel

What the kernel leaves in each buffer, as functions of what it found there, and the proof that it does.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the programs leave -/

/-- 128 rows of the square scratch. -/
def blkRows (X : Vec F S1280x1280 .f32) (base : Nat) (h : base + 128 ≤ 1280) : Vec F S128x1280 .f32 :=
  fun y => X ((Rect.unit (s := S1280x1280) ![base, 0] S128x1280.size (inb_rows base h)).toLoadRect.idx y)

/-- One row of the column scratch. -/
def diagRow (X : Vec F S1280x128 .f32) (r : Nat) (h : r < 1280) : Vec F S1x128 .f32 :=
  fun y => X ((Rect.unit (s := S1280x128) ![r, 0] S1x128.size (inb_diag r h)).toLoadRect.idx y)

/-- One row of the flags. -/
def suppRow (X : Vec F S10x128 .f32) (kb : Nat) (h : kb < 10) : Vec F S1x128 .f32 :=
  fun y => X ((Rect.unit (s := S10x128) ![kb, 0] S1x128.size (inb_supp kb h)).toLoadRect.idx y)

/-- The square scratch after `n` blocks of rows have been put, from block `kb` on. -/
def rowsPut (B : (kb : Nat) → 128 * kb + 128 ≤ 1280 → Vec F S128x1280 .f32) : (n kb : Nat) → kb + n ≤ 10 → Vec F S1280x1280 .f32 → Vec F S1280x1280 .f32
  | 0, _, _, X => X
  | n + 1, kb, hn, X => rowsPut B n (kb + 1) (by omega) (VecWindow.put X ![128 * kb, 0] S128x1280.size (B kb (by omega)))

/-- The column scratch after `n` squares have been put, from block `kb` on. -/
def squaresPut (B : (kb : Nat) → 128 * kb + 128 ≤ 1280 → Vec F S128x128 .f32) : (n kb : Nat) → kb + n ≤ 10 → Vec F S1280x128 .f32 → Vec F S1280x128 .f32
  | 0, _, _, X => X
  | n + 1, kb, hn, X => squaresPut B n (kb + 1) (by omega) (VecWindow.put X ![128 * kb, 0] S128x128.size (B kb (by omega)))

/-- The square scratch after `storeHots`. -/
abbrev hotsPut (rank : FVec F S1280x1 .f32) : (n kb : Nat) → kb + n ≤ 10 → Vec F S1280x1280 .f32 → Vec F S1280x1280 .f32 :=
  rowsPut fun kb h => hotBlk rank (128 * kb) h

/-- The square scratch after `storeSups`. -/
abbrev supsPut (st : FVec F S8x1280 .f32) : (n kb : Nat) → kb + n ≤ 10 → Vec F S1280x1280 .f32 → Vec F S1280x1280 .f32 :=
  rowsPut fun kb h => supBlk st (128 * kb) h

/-- The column scratch after `storeSups`. -/
abbrev diagsPut (st : FVec F S8x1280 .f32) : (n kb : Nat) → kb + n ≤ 10 → Vec F S1280x128 .f32 → Vec F S1280x128 .f32 :=
  squaresPut fun kb h => diagBlk st (128 * kb) h

/-- All rows of a blocked square. -/
def rowsAll (B : (kb : Nat) → 128 * kb + 128 ≤ 1280 → Vec F S128x1280 .f32) : Vec F S1280x1280 .f32 := fun y =>
  B ((y 0).val / 128) (by have h : (y 0).val < 1280 := (y 0).isLt; omega)
    (fun a => match a with | 0 => ⟨(y 0).val % 128, Nat.mod_lt _ (by decide)⟩ | 1 => y 1)

/-- All squares, one above the other. -/
def squaresAll (B : (kb : Nat) → 128 * kb + 128 ≤ 1280 → Vec F S128x128 .f32) : Vec F S1280x128 .f32 := fun y =>
  B ((y 0).val / 128) (by have h : (y 0).val < 1280 := (y 0).isLt; omega)
    (fun a => match a with | 0 => ⟨(y 0).val % 128, Nat.mod_lt _ (by decide)⟩ | 1 => y 1)

/-- What `rowsPut` leaves: the blocks' rows where it put them, the old ones elsewhere. -/
theorem rowsPut_apply (B : (kb : Nat) → 128 * kb + 128 ≤ 1280 → Vec F S128x1280 .f32) (n : Nat) :
    ∀ (kb : Nat) (hn : kb + n ≤ 10) (X : Vec F S1280x1280 .f32) (y : S1280x1280.Idx),
    rowsPut B n kb hn X y = if 128 * kb ≤ (y 0).val ∧ (y 0).val < 128 * (kb + n) then rowsAll B y else X y := by
  induction n with
  | zero =>
    intro kb hn X y
    unfold rowsPut
    rw [if_neg (by omega)]
  | succ n ih =>
    intro kb hn X y
    unfold rowsPut
    rw [ih]
    have h1 : (y 1).val < 1280 := (y 1).isLt
    by_cases hb : 128 * (kb + 1) ≤ (y 0).val ∧ (y 0).val < 128 * (kb + 1 + n)
    · rw [if_pos hb, if_pos (by omega)]
    · rw [if_neg hb]
      unfold VecWindow.put
      by_cases hc : 128 * kb ≤ (y 0).val ∧ (y 0).val < 128 * kb + 128
      · rw [dif_pos (fun a => match a with | 0 => hc | 1 => ⟨Nat.zero_le _, by show (y 1).val < 0 + 1280; omega⟩), if_pos (by omega)]
        have hk : kb = (y 0).val / 128 := by omega
        subst hk
        unfold rowsAll
        refine congrArg _ (funext fun a => Fin.ext ?_)
        match a with
        | 0 => show (y 0).val - 128 * ((y 0).val / 128) = (y 0).val % 128; omega
        | 1 => show (y 1).val - 0 = (y 1).val; omega
      · rw [dif_neg (fun h => hc (h 0)), if_neg (by omega)]

/-- What `squaresPut` leaves: the squares' rows where it put them, the old ones elsewhere. -/
theorem squaresPut_apply (B : (kb : Nat) → 128 * kb + 128 ≤ 1280 → Vec F S128x128 .f32) (n : Nat) :
    ∀ (kb : Nat) (hn : kb + n ≤ 10) (X : Vec F S1280x128 .f32) (y : S1280x128.Idx),
    squaresPut B n kb hn X y = if 128 * kb ≤ (y 0).val ∧ (y 0).val < 128 * (kb + n) then squaresAll B y else X y := by
  induction n with
  | zero =>
    intro kb hn X y
    unfold squaresPut
    rw [if_neg (by omega)]
  | succ n ih =>
    intro kb hn X y
    unfold squaresPut
    rw [ih]
    have h1 : (y 1).val < 128 := (y 1).isLt
    by_cases hb : 128 * (kb + 1) ≤ (y 0).val ∧ (y 0).val < 128 * (kb + 1 + n)
    · rw [if_pos hb, if_pos (by omega)]
    · rw [if_neg hb]
      unfold VecWindow.put
      by_cases hc : 128 * kb ≤ (y 0).val ∧ (y 0).val < 128 * kb + 128
      · rw [dif_pos (fun a => match a with | 0 => hc | 1 => ⟨Nat.zero_le _, by show (y 1).val < 0 + 128; omega⟩), if_pos (by omega)]
        have hk : kb = (y 0).val / 128 := by omega
        subst hk
        unfold squaresAll
        refine congrArg _ (funext fun a => Fin.ext ?_)
        match a with
        | 0 => show (y 0).val - 128 * ((y 0).val / 128) = (y 0).val % 128; omega
        | 1 => show (y 1).val - 0 = (y 1).val; omega
      · rw [dif_neg (fun h => hc (h 0)), if_neg (by omega)]

/-- All ten blocks put leave nothing of what was there. -/
theorem rowsPut_all (B : (kb : Nat) → 128 * kb + 128 ≤ 1280 → Vec F S128x1280 .f32) (X : Vec F S1280x1280 .f32) :
    rowsPut B 10 0 (by decide) X = rowsAll B := by
  funext y
  rw [rowsPut_apply, if_pos ⟨Nat.zero_le _, (y 0).isLt⟩]

/-- Nine blocks put and then the tenth leave nothing of what was there. -/
theorem rowsPut_split (B : (kb : Nat) → 128 * kb + 128 ≤ 1280 → Vec F S128x1280 .f32) (X : Vec F S1280x1280 .f32) :
    rowsPut B 1 9 (by decide) (rowsPut B 9 0 (by decide) X) = rowsAll B := by
  funext y
  have h : (y 0).val < 1280 := (y 0).isLt
  rw [rowsPut_apply, rowsPut_apply]
  by_cases hb : 1152 ≤ (y 0).val
  · rw [if_pos (by omega)]
  · rw [if_neg (by omega), if_pos (by omega)]

/-- Nine squares put and then the tenth leave nothing of what was there. -/
theorem squaresPut_split (B : (kb : Nat) → 128 * kb + 128 ≤ 1280 → Vec F S128x128 .f32) (X : Vec F S1280x128 .f32) :
    squaresPut B 1 9 (by decide) (squaresPut B 9 0 (by decide) X) = squaresAll B := by
  funext y
  have h : (y 0).val < 1280 := (y 0).isLt
  rw [squaresPut_apply, squaresPut_apply]
  by_cases hb : 1152 ≤ (y 0).val
  · rw [if_pos (by omega)]
  · rw [if_neg (by omega), if_pos (by omega)]

/-- All selection rows put. -/
theorem hotsPut_all (rank : FVec F S1280x1 .f32) (X : Vec F S1280x1280 .f32) : hotsPut rank 10 0 (by decide) X = rowsAll fun kb h => hotBlk rank (128 * kb) h := rowsPut_all _ X

/-- All suppression rows put. -/
theorem supsPut_split (st : FVec F S8x1280 .f32) (X : Vec F S1280x1280 .f32) :
    supsPut st 1 9 (by decide) (supsPut st 9 0 (by decide) X) = rowsAll fun kb h => supBlk st (128 * kb) h := rowsPut_split _ X

/-- All squares put. -/
theorem diagsPut_split (st : FVec F S8x1280 .f32) (X : Vec F S1280x128 .f32) :
    diagsPut st 1 9 (by decide) (diagsPut st 9 0 (by decide) X) = squaresAll fun kb h => diagBlk st (128 * kb) h := squaresPut_split _ X

/-- The running row after the last `n` steps inside a block. -/
def loopVal (D : Vec F S1280x128 .f32) (base : Nat) (hb : base + 128 ≤ 1280) : Nat → FVec F S1x128 .f32 → FVec F S1x128 .f32
  | 0, sb => sb
  | n + 1, sb => loopVal D base hb n (nmsStep (127 - n) (by omega) sb (diagRow D (base + (127 - n)) (by omega)))

/-- The flags after one block. -/
def blockVal (M : Vec F S1280x1280 .f32) (D : Vec F S1280x128 .f32) (kb : Nat) (hk : kb < 10) (supp : Vec F S10x128 .f32) : Vec F S10x128 .f32 :=
  nmsContrib (loopVal D (128 * kb) (by omega) 128 (suppRow supp kb hk)) (blkRows M (128 * kb) (by omega)) supp

/-- The flags after `n` conditional blocks from block `kb` on. -/
def sweepVal (M : Vec F S1280x1280 .f32) (D : Vec F S1280x128 .f32) (nb : BitVec 32) : (n kb : Nat) → kb + n ≤ 10 → Vec F S10x128 .f32 → Vec F S10x128 .f32
  | 0, _, _, supp => supp
  | n + 1, kb, h, supp => sweepVal M D nb n (kb + 1) (by omega) (if liveBit nb kb = 1#1 then blockVal M D kb (by omega) supp else supp)

/-! ## Loads and stores of owned buffers -/

/-- A load from an owned buffer continues at the entries read. -/
theorem wp_load_owned (c : Dev nD) {E : Set ℕ} {α : Type} {Q : α → sProp 𝕄} {sh : Shape} {e : EltTy} {m : Memref sig .tc .vmem sh e} {r : LoadRect sh} {hl : m.view.LoadsAt r}
    {k : (r.shape.Idx → Elt F e) → Prog (TpuEff nD τ sig (Elt F) Λ₀ .tc) α} {X : sh.Idx → Elt F e} :
    (owns (c : Thread nD τ) m fullShare X : sProp 𝕄)
      ⊢ iprop((owns (c : Thread nD τ) m fullShare X -∗ wp frame (wpE (defs₀ (F := F)) Variants.none c none) E (k (fun y => X (r.idx y))) Q)
        -∗ wp frame (wpE (defs₀ (F := F)) Variants.none c none) E (.op (.load m r hl) k) Q) := by
  unfold owns
  iintro ⟨%f, %hf, H⟩ Hk
  subst hf
  have hS : m.view.setOn r.set ⊆ m.view.set := View.setOn_subset_set _ _
  iapply (wp_load (defs := defs₀ (F := F)) Variants.none (c : Thread nD τ) none E (m := m) (r := r) (hl := hl) (k := k) (Q := Q) hS) $$ H
  iintro H
  iapply Hk
  iexists f
  isplitr
  · ipureintro; rfl
  iexact H

/-- A store to an owned buffer puts the payload at its rectangle. -/
theorem wp_store_owned (c : Dev nD) {E : Set ℕ} {α : Type} {Q : α → sProp 𝕄} {sh : Shape} {e : EltTy} {m : Memref sig .tc .vmem sh e} {off size : Fin sh.rank → ℕ} {inb : ∀ a, off a + size a ≤ sh.size a}
    {w : (Rect.unit off size inb).shape.Idx → Elt F e} {hx : (m.access (Rect.unit off size inb)).Stores Finset.univ}
    {hm : Finset.univ = Finset.univ ∨ ∀ a, (Rect.unit off size inb).stride a = 1}
    {k : PUnit → Prog (TpuEff nD τ sig (Elt F) Λ₀ .tc) α} {X : sh.Idx → Elt F e} :
    (owns (c : Thread nD τ) m fullShare X : sProp 𝕄)
      ⊢ iprop((owns (c : Thread nD τ) m fullShare (VecWindow.put X off size w) -∗ wp frame (wpE (defs₀ (F := F)) Variants.none c none) E (k ⟨⟩) Q)
        -∗ wp frame (wpE (defs₀ (F := F)) Variants.none c none) E (.op (.store m (Rect.unit off size inb) w Finset.univ hx hm) k) Q) := by
  unfold owns
  iintro ⟨%f, %hf, H⟩ Hk
  subst hf
  have hS : (m.access (Rect.unit off size inb)).set ⊆ m.view.set := by
    show (m.view.slice _).set ⊆ _
    rw [View.set_slice]
    exact View.setOn_subset_set _ _
  iapply (wp_store_writes₀ (defs := defs₀ (F := F)) Variants.none (c : Thread nD τ) none E (m := m) (r := Rect.unit off size inb) (w := w) (hx := hx) (hm := hm) (k := k) (Q := Q) hS) $$ H
  iintro H
  iapply Hk
  iexists _
  isplitr
  swap
  · iexact H
  ipureintro
  exact View.read_writes_cons_put m.view f inb w [] rfl

/-- A store to the whole of an owned buffer leaves the payload. -/
theorem put_whole {sh : Shape} {e : EltTy} (X w : sh.Idx → Elt F e) (off : Fin sh.rank → ℕ) (h : ∀ a, off a = 0) : VecWindow.put X off sh.size w = w := by
  funext y
  unfold VecWindow.put
  rw [dif_pos (fun a => ⟨by rw [h a]; exact Nat.zero_le _, by rw [h a, Nat.zero_add]; exact (y a).isLt⟩)]
  refine congrArg w (funext fun a => Fin.ext ?_)
  show (y a).val - off a = _
  rw [h a, Nat.sub_zero]

/-- The stores of selection rows leave `hotsPut`. -/
theorem wp_storeHots (c : Dev nD) {E : Set ℕ} {Q : PUnit → sProp 𝕄} (arg3 : Memref sig .tc .vmem S1280x1280 .f32) (rank : FVec F S1280x1 .f32) (n : Nat) :
    ∀ (kb : Nat) (hn : kb + n ≤ 10) (X : Vec F S1280x1280 .f32),
    (owns (c : Thread nD τ) arg3 fullShare X : sProp 𝕄)
      ⊢ iprop((owns (c : Thread nD τ) arg3 fullShare (hotsPut rank n kb hn X) -∗ Q ⟨⟩) -∗ wp frame (wpE (defs₀ (F := F)) Variants.none c none) E (storeHots arg3 rank n kb hn) Q) := by
  induction n with
  | zero =>
    intro kb hn X
    unfold storeHots hotsPut rowsPut
    rw [wp_ret]
    iintro H Hk
    imodintro
    iapply Hk
    iexact H
  | succ n ih =>
    intro kb hn X
    unfold storeHots hotsPut rowsPut
    iintro H Hk
    iapply (wp_load_owned c) $$ H
    iintro H
    iapply (wp_store_owned c) $$ H
    iintro H
    rw [shapeCast_self]
    iapply (ih (kb + 1) _ _) $$ H
    iexact Hk

/-- The stores of suppression rows leave `supsPut` and `diagsPut`. -/
theorem wp_storeSups (c : Dev nD) {E : Set ℕ} {Q : PUnit → sProp 𝕄} (arg3 : Memref sig .tc .vmem S1280x1280 .f32) (arg4 : Memref sig .tc .vmem S1280x128 .f32) (st : FVec F S8x1280 .f32) (n : Nat) :
    ∀ (kb : Nat) (hn : kb + n ≤ 10) (X : Vec F S1280x1280 .f32) (D : Vec F S1280x128 .f32),
    (owns (c : Thread nD τ) arg3 fullShare X : sProp 𝕄)
      ⊢ iprop(owns (c : Thread nD τ) arg4 fullShare D
        -∗ (owns (c : Thread nD τ) arg3 fullShare (supsPut st n kb hn X) -∗ owns (c : Thread nD τ) arg4 fullShare (diagsPut st n kb hn D) -∗ Q ⟨⟩)
        -∗ wp frame (wpE (defs₀ (F := F)) Variants.none c none) E (storeSups arg3 arg4 st n kb hn) Q) := by
  induction n with
  | zero =>
    intro kb hn X D
    unfold storeSups supsPut diagsPut rowsPut squaresPut
    rw [wp_ret]
    iintro H3 H4 Hk
    imodintro
    iapply Hk $$ H3 H4
  | succ n ih =>
    intro kb hn X D
    unfold storeSups supsPut diagsPut rowsPut squaresPut
    iintro H3 H4 Hk
    iapply (wp_load_owned c) $$ H3
    iintro H3
    iapply (wp_store_owned c) $$ H3
    iintro H3
    iapply (wp_load_owned c) $$ H4
    iintro H4
    iapply (wp_store_owned c) $$ H4
    iintro H4
    rw [shapeCast_self, shapeCast_self]
    iapply (ih (kb + 1) _ _ _) $$ H3 H4
    iexact Hk

/-- The steps inside a block return `loopVal`. -/
theorem wp_nmsLoop (c : Dev nD) {E : Set ℕ} {Q : FVec F S1x128 .f32 → sProp 𝕄} (arg4 : Memref sig .tc .vmem S1280x128 .f32) (base : Nat) (hb : base + 128 ≤ 1280)
    (D : Vec F S1280x128 .f32) (n : Nat) : ∀ sb : FVec F S1x128 .f32,
    (owns (c : Thread nD τ) arg4 fullShare D : sProp 𝕄)
      ⊢ iprop((owns (c : Thread nD τ) arg4 fullShare D -∗ Q (loopVal D base hb n sb)) -∗ wp frame (wpE (defs₀ (F := F)) Variants.none c none) E (nmsLoop arg4 base hb n sb) Q) := by
  induction n with
  | zero =>
    intro sb
    unfold nmsLoop loopVal
    rw [wp_ret]
    iintro H Hk
    imodintro
    iapply Hk
    iexact H
  | succ n ih =>
    intro sb
    unfold nmsLoop loopVal
    iintro H Hk
    iapply (wp_load_owned c) $$ H
    iintro H
    iapply (ih _) $$ H
    iexact Hk

/-- An operation followed by a program. -/
theorem lift_bind {α β : Type} (e : TpuEff nD τ sig (Elt F) Λ₀ .tc α) (k : α → Prog (TpuEff nD τ sig (Elt F) Λ₀ .tc) β) : (Prog.lift e >>= k) = .op e k := rfl

/-- Reading the whole flags reads the flags. -/
theorem supp_whole (X : Vec F S10x128 .f32) : (fun y => X ((Rect.unit (s := S10x128) ![0, 0] S10x128.size inb_S10x128_S10x128_0_0).toLoadRect.idx y)) = X := by
  funext y
  refine congrArg X (funext fun a => Fin.ext ?_)
  match a with
  | 0 => exact (Nat.zero_add _).trans (Nat.one_mul _)
  | 1 => exact (Nat.zero_add _).trans (Nat.one_mul _)

/-- Writing the whole flags leaves what was written. -/
theorem supp_put (X w : Vec F S10x128 .f32) : VecWindow.put X ![0, 0] S10x128.size w = w :=
  put_whole X w _ fun a => match a with | 0 => rfl | 1 => rfl

/-- One block of the sweep leaves `blockVal` in the flags. -/
theorem wp_nmsBlock (c : Dev nD) {E : Set ℕ} {Q : PUnit → sProp 𝕄} (arg3 : Memref sig .tc .vmem S1280x1280 .f32) (arg4 : Memref sig .tc .vmem S1280x128 .f32) (arg5 : Memref sig .tc .vmem S10x128 .f32)
    (kb : Nat) (hk : kb < 10) (M : Vec F S1280x1280 .f32) (D : Vec F S1280x128 .f32) (supp : Vec F S10x128 .f32) :
    (owns (c : Thread nD τ) arg3 fullShare M : sProp 𝕄)
      ⊢ iprop(owns (c : Thread nD τ) arg4 fullShare D -∗ owns (c : Thread nD τ) arg5 fullShare supp
        -∗ (owns (c : Thread nD τ) arg3 fullShare M -∗ owns (c : Thread nD τ) arg4 fullShare D -∗ owns (c : Thread nD τ) arg5 fullShare (blockVal M D kb hk supp) -∗ Q ⟨⟩)
        -∗ wp frame (wpE (defs₀ (F := F)) Variants.none c none) E (nmsBlock arg3 arg4 arg5 kb hk) Q) := by
  unfold nmsBlock
  simp only [lift_bind]
  iintro H3 H4 H5 Hk
  iapply (wp_load_owned c) $$ H5
  iintro H5
  rw [wp_bind]
  iapply (wp_nmsLoop c) $$ H4
  iintro H4
  iapply (wp_load_owned c) $$ H3
  iintro H3
  iapply (wp_load_owned c) $$ H5
  iintro H5
  iapply (wp_load_owned c) $$ H5
  iintro H5
  iapply (wp_store_owned c) $$ H5
  iintro H5
  rw [wp_ret, supp_whole, shapeCast_self, supp_put]
  imodintro
  iapply Hk $$ H3 H4 [H5]
  iexact H5

/-- The conditional blocks leave `sweepVal` in the flags. -/
theorem wp_nmsSweep (c : Dev nD) {E : Set ℕ} {α : Type} {Q : α → sProp 𝕄} (arg3 : Memref sig .tc .vmem S1280x1280 .f32) (arg4 : Memref sig .tc .vmem S1280x128 .f32) (arg5 : Memref sig .tc .vmem S10x128 .f32)
    (nb : BitVec 32) (k : Prog (TpuEff nD τ sig (Elt F) Λ₀ .tc) α) (M : Vec F S1280x1280 .f32) (D : Vec F S1280x128 .f32) (n : Nat) :
    ∀ (kb : Nat) (h : kb + n ≤ 10) (supp : Vec F S10x128 .f32),
    (owns (c : Thread nD τ) arg3 fullShare M : sProp 𝕄)
      ⊢ iprop(owns (c : Thread nD τ) arg4 fullShare D -∗ owns (c : Thread nD τ) arg5 fullShare supp
        -∗ (owns (c : Thread nD τ) arg3 fullShare M -∗ owns (c : Thread nD τ) arg4 fullShare D -∗ owns (c : Thread nD τ) arg5 fullShare (sweepVal M D nb n kb h supp) -∗ wp frame (wpE (defs₀ (F := F)) Variants.none c none) E k Q)
        -∗ wp frame (wpE (defs₀ (F := F)) Variants.none c none) E (nmsSweep arg3 arg4 arg5 nb k n kb h) Q) := by
  induction n with
  | zero =>
    intro kb h supp
    unfold nmsSweep sweepVal
    iintro H3 H4 H5 Hk
    iapply Hk $$ H3 H4 H5
  | succ n ih =>
    intro kb h supp
    unfold nmsSweep sweepVal
    by_cases hl : liveBit nb kb = 1#1
    · rw [if_pos hl, if_pos hl, wp_bind]
      iintro H3 H4 H5 Hk
      iapply (wp_nmsBlock c) $$ H3 H4 H5
      iintro H3 H4 H5
      iapply (ih (kb + 1) _ _) $$ H3 H4 H5
      iexact Hk
    · rw [if_neg hl, if_neg hl]
      exact ih (kb + 1) _ _

/-! ## The whole kernel -/

/-- The input block as 125 rows. -/
def inOf (x : Vec F S1x125x256 .f32) : FVec F S125x256 .f32 := shapeCast S125x256 x shapeCasts_S1x125x256_S125x256

/-- The selection matrix of the input block. -/
def selOf (x : Vec F S1x125x256 .f32) : Vec F S1280x1280 .f32 := rowsAll fun kb h => hotBlk (rankOf (objOf (inOf x))) (128 * kb) h

/-- The sorted boxes of the input block. -/
def sortedVal (x : Vec F S1x125x256 .f32) : FVec F S8x1280 .f32 := sortedOf (detOf (inOf x)) (selOf x)

/-- The cleared flags. -/
def noFlags : Vec F S10x128 .f32 := broadcast S10x128 (Scalar.ofBits .f32 0x00000000#32)

/-- The flags after the sweep. -/
def flagsVal (st : FVec F S8x1280 .f32) (M : Vec F S1280x1280 .f32) (D : Vec F S1280x128 .f32) : Vec F S10x128 .f32 :=
  sweepVal M D (nblkOf (nposOf st)) 8 2 (by decide) (sweepVal M D (nblkOf (nposOf st)) 2 0 (by decide) noFlags)

/-- The block the kernel writes for the input block `x`. -/
def outVal (x : Vec F S1x125x256 .f32) : Vec F S1x8x1280 .f32 :=
  outOf (keptOf (sortedVal x) (flagsVal (sortedVal x) (rowsAll fun kb h => supBlk (sortedVal x) (128 * kb) h) (squaresAll fun kb h => diagBlk (sortedVal x) (128 * kb) h)))
    (extractStridedSlice S6x1280 ![1, 0] (sortedVal x) slices_S8x1280_o1_0_S6x1280) (broadcast S1x1280 (Scalar.ofBits .f32 0x00000000#32))

/-- Reading the whole input block reads it. -/
theorem in_whole (X : Vec F S1x125x256 .f32) : (fun y => X ((Rect.unit (s := S1x125x256) ![0, 0, 0] S1x125x256.size inb_S1x125x256_S1x125x256_0_0_0).toLoadRect.idx y)) = X := by
  funext y
  refine congrArg X (funext fun a => Fin.ext ?_)
  match a with
  | 0 => exact (Nat.zero_add _).trans (Nat.one_mul _)
  | 1 => exact (Nat.zero_add _).trans (Nat.one_mul _)
  | 2 => exact (Nat.zero_add _).trans (Nat.one_mul _)

/-- Reading the whole square scratch reads it. -/
theorem sq_whole (X : Vec F S1280x1280 .f32) : (fun y => X ((Rect.unit (s := S1280x1280) ![0, 0] S1280x1280.size inb_S1280x1280_S1280x1280_0_0).toLoadRect.idx y)) = X := by
  funext y
  refine congrArg X (funext fun a => Fin.ext ?_)
  match a with
  | 0 => exact (Nat.zero_add _).trans (Nat.one_mul _)
  | 1 => exact (Nat.zero_add _).trans (Nat.one_mul _)

/-- Writing the whole result block leaves what was written. -/
theorem out_put (X w : Vec F S1x8x1280 .f32) : VecWindow.put X ![0, 0, 0] S1x8x1280.size w = w :=
  put_whole X w _ fun a => match a with | 0 => rfl | 1 => rfl | 2 => rfl

/-- The flags cleared and blocks 0 and 1. -/
theorem wp_sweepHead (c : Dev nD) {E : Set ℕ} {Q : (Σ' (v1005 : BitVec 32), BitVec 32) → sProp 𝕄} (arg3 : Memref sig .tc .vmem S1280x1280 .f32) (arg4 : Memref sig .tc .vmem S1280x128 .f32) (arg5 : Memref sig .tc .vmem S10x128 .f32)
    (nb : BitVec 32) (M : Vec F S1280x1280 .f32) (D : Vec F S1280x128 .f32) (supp : Vec F S10x128 .f32) :
    (owns (c : Thread nD τ) arg3 fullShare M : sProp 𝕄)
      ⊢ iprop(owns (c : Thread nD τ) arg4 fullShare D -∗ owns (c : Thread nD τ) arg5 fullShare supp
        -∗ (owns (c : Thread nD τ) arg3 fullShare M -∗ owns (c : Thread nD τ) arg4 fullShare D -∗ owns (c : Thread nD τ) arg5 fullShare (sweepVal M D nb 2 0 (by decide) noFlags) -∗ Q ⟨nb, 2#32⟩)
        -∗ wp frame (wpE (defs₀ (F := F)) Variants.none c none) E (sweepHead arg3 arg4 arg5 nb) Q) := by
  unfold sweepHead
  simp only [lift_bind]
  iintro H3 H4 H5 Hk
  iapply (wp_load_owned c) $$ H5
  iintro H5
  iapply (wp_store_owned c) $$ H5
  iintro H5
  rw [shapeCast_self, supp_put]
  iapply (wp_nmsSweep c) $$ H3 H4 H5
  iintro H3 H4 H5
  rw [wp_ret]
  imodintro
  iapply Hk $$ H3 H4 [H5]
  iexact H5

/-- Blocks 2 to 9, and the rows to write. -/
theorem wp_sweepRest (c : Dev nD) {E : Set ℕ} {Q : (Σ' (v1045 : FVec F S1x1280 .f32) (v1046 : FVec F S6x1280 .f32), FVec F S1x1280 .f32) → sProp 𝕄}
    (arg3 : Memref sig .tc .vmem S1280x1280 .f32) (arg4 : Memref sig .tc .vmem S1280x128 .f32) (arg5 : Memref sig .tc .vmem S10x128 .f32)
    (st : FVec F S8x1280 .f32) (nb : BitVec 32) (M : Vec F S1280x1280 .f32) (D : Vec F S1280x128 .f32) (supp : Vec F S10x128 .f32) :
    (owns (c : Thread nD τ) arg3 fullShare M : sProp 𝕄)
      ⊢ iprop(owns (c : Thread nD τ) arg4 fullShare D -∗ owns (c : Thread nD τ) arg5 fullShare supp
        -∗ (owns (c : Thread nD τ) arg3 fullShare M -∗ owns (c : Thread nD τ) arg4 fullShare D -∗ owns (c : Thread nD τ) arg5 fullShare (sweepVal M D nb 8 2 (by decide) supp)
            -∗ Q ⟨keptOf st (sweepVal M D nb 8 2 (by decide) supp), extractStridedSlice S6x1280 ![1, 0] st slices_S8x1280_o1_0_S6x1280, broadcast S1x1280 (Scalar.ofBits .f32 0x00000000#32)⟩)
        -∗ wp frame (wpE (defs₀ (F := F)) Variants.none c none) E (sweepRest arg3 arg4 arg5 st nb 2#32) Q) := by
  have he : sweepRest arg3 arg4 arg5 st nb 2#32 = nmsSweep arg3 arg4 arg5 nb
      (.op (.load arg5 (Rect.unit (s := S10x128) ![0, 0] S10x128.size inb_S10x128_S10x128_0_0).toLoadRect (View.loadsAt_vmem h_S10x128)) fun (supp : Vec F S10x128 .f32) =>
        .ret ⟨keptOf st supp, extractStridedSlice S6x1280 ![1, 0] st slices_S8x1280_o1_0_S6x1280, broadcast S1x1280 (Scalar.ofBits .f32 0x00000000#32)⟩) 8 2 (by decide) := rfl
  rw [he]
  iintro H3 H4 H5 Hk
  iapply (wp_nmsSweep c) $$ H3 H4 H5
  iintro H3 H4 H5
  iapply (wp_load_owned c) $$ H5
  iintro H5
  rw [wp_ret, supp_whole]
  imodintro
  iapply Hk $$ H3 H4 H5

/-- The block is written. -/
theorem wp_finish (c : Dev nD) {E : Set ℕ} {Q : PUnit → sProp 𝕄} (arg2 : Memref sig .tc .vmem S1x8x1280 .f32) (a : FVec F S1x1280 .f32) (b : FVec F S6x1280 .f32) (z : FVec F S1x1280 .f32) (y : Vec F S1x8x1280 .f32) :
    (owns (c : Thread nD τ) arg2 fullShare y : sProp 𝕄)
      ⊢ iprop((owns (c : Thread nD τ) arg2 fullShare (outOf a b z) -∗ Q ⟨⟩) -∗ wp frame (wpE (defs₀ (F := F)) Variants.none c none) E (finish arg2 a b z) Q) := by
  unfold finish
  simp only [lift_bind]
  iintro H Hk
  iapply (wp_load_owned c) $$ H
  iintro H
  iapply (wp_store_owned c) $$ H
  iintro H
  rw [wp_ret, out_put]
  imodintro
  iapply Hk
  iexact H

/-- The kernel, on owned buffers: the input stays, the result is written, the scratches end at something. -/
theorem wp_kernel (c : Dev nD) (E : Set ℕ) (i : grid0.Coords) (arg1 : Memref sig .tc .vmem S1x125x256 .f32) (harg1 : arg1.IsWhole) (arg2 : Memref sig .tc .vmem S1x8x1280 .f32) (harg2 : arg2.IsWhole)
    (arg3 : Memref sig .tc .vmem S1280x1280 .f32) (harg3 : arg3.IsWhole) (arg4 : Memref sig .tc .vmem S1280x128 .f32) (harg4 : arg4.IsWhole) (arg5 : Memref sig .tc .vmem S10x128 .f32) (harg5 : arg5.IsWhole)
    (x : Vec F S1x125x256 .f32) (y : Vec F S1x8x1280 .f32) (X : Vec F S1280x1280 .f32) (D : Vec F S1280x128 .f32) (supp : Vec F S10x128 .f32) (Q : PUnit → sProp 𝕄) :
    (owns (c : Thread nD τ) arg1 fullShare x : sProp 𝕄)
      ⊢ iprop(owns (c : Thread nD τ) arg2 fullShare y -∗ owns (c : Thread nD τ) arg3 fullShare X -∗ owns (c : Thread nD τ) arg4 fullShare D -∗ owns (c : Thread nD τ) arg5 fullShare supp
        -∗ (owns (c : Thread nD τ) arg1 fullShare x
            -∗ owns (c : Thread nD τ) arg2 fullShare (outVal x)
            -∗ (∃ d, owns (c : Thread nD τ) arg3 fullShare d) -∗ (∃ d, owns (c : Thread nD τ) arg4 fullShare d) -∗ (∃ d, owns (c : Thread nD τ) arg5 fullShare d) -∗ Q ⟨⟩)
        -∗ wp frame (wpE (defs₀ (F := F)) Variants.none c none) E (cc0__nms_kernel i arg1 harg1 arg2 harg2 arg3 harg3 arg4 harg4 arg5 harg5) Q) := by
  rw [kernel_eq_folded]
  unfold folded beforeSweep
  simp only [lift_bind]
  iintro H1 H2 H3 H4 H5 Hk
  iapply (wp_load_owned c) $$ H1
  iintro H1
  rw [in_whole, wp_bind]
  iapply (wp_storeHots c) $$ H3
  iintro H3
  iapply (wp_load_owned c) $$ H3
  iintro H3
  rw [sq_whole, hotsPut_all, wp_bind]
  iapply (wp_storeSups c) $$ H3 H4
  iintro H3 H4
  rw [wp_bind, wp_bind]
  iapply (wp_storeSups c) $$ H3 H4
  iintro H3 H4
  rw [supsPut_split, diagsPut_split]
  iapply (wp_sweepHead c) $$ H3 H4 H5
  iintro H3 H4 H5
  rw [wp_bind]
  iapply (wp_sweepRest c) $$ H3 H4 H5
  iintro H3 H4 H5
  iapply (wp_finish c) $$ H2
  iintro H2
  iapply Hk $$ H1 [H2] [H3] [H4] [H5]
  · iexact H2
  · iexists _; iexact H3
  · iexists _; iexact H4
  · iexists _; iexact H5

end Cert.KernelIdeal.Hand

end

end
-- ==== Proof.LaunchIdeal.lean ====
module

public import proofs.«01_k».proof.Proof.RunIdeal
public import Idealize.ShloMosaic.Lib.Claim

@[expose] public section

set_option maxRecDepth 16384

noncomputable section

/-!
# The launch

The kernel's proof at each grid point, restated for the launch, and what the whole program leaves.
-/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as the region finds them; after the body at point `t` the input's buffer holds its block and
the output's the kernel's result for that block; the scratches stay inside the region's own rest. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outVal (iblk m c 0 t)
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- The input's buffer after the body. -/
theorem after_in (c : Dev nD) (t : Fin cfg0.N) : (dats m 0 c).after 0 t = iblk m c 0 t := by dsimp only [dats]
/-- The output's buffer after the body. -/
theorem after_out (c : Dev nD) (t : Fin cfg0.N) : (dats m 0 c).after 1 t = outVal (iblk m c 0 t) := by dsimp only [dats]
/-- The input's buffer before the body holds its block. -/
theorem before_in (c : Dev nD) (t : Fin cfg0.N) (d) : (dats m 0 c).before 0 t d = iblk m c 0 t :=
  before0_0_of m (dats m 0 c) (A_eq m c 0) (after_in m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- A buffer held at something is a whole memref owned at something. -/
theorem some_owned (c : Dev nD) (b : Ref sig .tc) : (iprop(∃ f : Buf (Elt F) ((c : Thread nD τ).loc b), ((c : Thread nD τ).loc b) ↦{fullShare} f) : sProp 𝕄)
    = iprop(∃ f : b.ty.Contents (Elt F), owns (c : Thread nD τ) (Memref.whole b) fullShare f) := by
  simp only [owns_whole]

set_option maxHeartbeats 1000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl, after_in, after_out,
    show (dats m 0 c).Φ t.castSucc = Pipeline.ΦA spec0 c from rfl]
  unfold Pipeline.ΦA
  rw [scopedRest0_eq, some_owned, some_owned, some_owned]
  iintro ⟨⟨⟨⟨%f3, H3⟩, ⟨%f4, H4⟩, ⟨%f5, H5⟩⟩, Hr⟩, Ho, ⟨%d0, H0⟩, ⟨%d1, H1⟩⟩
  iapply (wp_kernel c) $$ H0 H1 H3 H4 H5
  iintro H0 H1 ⟨%g3, H3⟩ ⟨%g4, H4⟩ ⟨%g5, H5⟩
  isplitl [Hr H3 H4 H5]
  · isplitl [H3 H4 H5]
    · isplitl [H3]; · iexists _; iexact H3
      isplitl [H4]; · iexists _; iexact H4
      iexists _; iexact H5
    iexact Hr
  isplitl [Ho]; · iexact Ho
  isplitl [H0]; · iexact H0
  iexact H1

/-- The body table's row at point `t`'s slots is the body there. -/
theorem row_eq (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
set_option maxHeartbeats 4000000 in
/-- Every weakly fair execution of the program ends, with each array at what the proof data says, everything else as the host
lines left it, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl) (hQ' := fun _ h => h)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program ends with its argument unchanged and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Hand

end

end
-- ==== Proof.FrameKernel.lean ====
module

public import proofs.«01_k».proof.Proof.LaunchIdeal
public import proofs.«01_k».proof.Proof.Gen.Kernel
public import proofs.«01_k».proof.Defs

@[expose] public section

set_option maxRecDepth 65536

/-!
# The kernel at the words

The kernel as printed and its ideal reading are the same text, so what was proved of the one for any floats holds of the other.
-/

namespace Cert.Kernel.Hand

open Idealize.ShloMosaic Idealize.SL.Sem

variable {F : FTy → Type} [FloatOps F]

set_option maxHeartbeats 4000000 in
/-- The two kernels' bodies are the same. -/
theorem body_same : @Cert.Kernel.cc0__nms_kernel F _ _ = @Cert.KernelIdeal.cc0__nms_kernel F _ _ := rfl

set_option maxHeartbeats 4000000 in
/-- The two body tables are the same. -/
theorem table_same : (Cert.Kernel.defs₀ (F := F)) = Cert.KernelIdeal.defs₀ := by
  unfold Cert.Kernel.defs₀ Cert.KernelIdeal.defs₀
  refine congrArg Defs.onTc (funext fun l => funext fun args => ?_)
  match l, args with
  | 0, (t, s) => rfl
  | ⟨n + 1, h⟩, _ => exact absurd h (Nat.not_lt.2 (Nat.le_add_left _ _))

/-- And so are the tables with the launch. -/
theorem defs_same : (Cert.Kernel.defs (F := F)) = Cert.KernelIdeal.defs := congrArg (Pipeline.defs Cert.KernelIdeal.pcfgs) table_same

set_option maxHeartbeats 4000000 in
/-- The kernel over the words ends, its argument unchanged and every semaphore counter at zero. -/
theorem frame_bits : Cert.quiescent_Kernel (hKernel := Cert.Kernel.Gen.facts) := fun m ρ _ => by
  rw [defs_same]
  exact Cert.KernelIdeal.Hand.frame_all (F := Bits) m ρ

end Cert.Kernel.Hand

end
-- ==== Proof.KernelValue.lean ====
module

public import proofs.«01_k».proof.Proof.LaunchIdeal
public import Idealize.ShloMosaic.Lib.Pointwise
public import Idealize.ShloMosaic.Lib.Pipeline.ValueKit.Geometry

@[expose] public section

set_option maxRecDepth 16384

noncomputable section

/-!
# What the kernel's program leaves

The result in terms of the argument: for each batch the kernel's table, its padding row dropped, transposed.
-/

namespace Cert.KernelIdeal.Hand

open Idealize.ShloMosaic Idealize.ShloMosaic.TcCoe Idealize.SL.Sem
open Cert.KernelIdeal Cert.KernelIdeal.Gen

/-- A batch of the argument, its cells in one row. -/
def batchOf (a : (⟨S2x125x16x16, .f32⟩ : BufTy).Contents (Elt Ideal)) (b : Fin 2) : Vec Ideal S1x125x256 .f32 :=
  fun y => a (ix4 b (y 1) ⟨(y 2).val / 16, by have := (y 2).isLt; simp at this; omega⟩ ⟨(y 2).val % 16, by omega⟩)

/-- The kernel's result over both batches. -/
def tables (a : (⟨S2x125x16x16, .f32⟩ : BufTy).Contents (Elt Ideal)) : (⟨S2x8x1280, .f32⟩ : BufTy).Contents (Elt Ideal) :=
  fun y => outVal (batchOf a (y 0)) (ix3 0 (y 1) (y 2))

variable (m : (ℓ : Loc nD τ sig) → Buf (Elt Ideal) ℓ) (ρ : Dev nD → PrngReg) (c : Dev nD)

/-- The region finds the argument reshaped. -/
theorem entry_eq : V m c main_v0 = shapeCast S2x125x256 (m ((c.tc : Thread nD τ).loc main_arg0)) shapeCasts_S2x125x16x16_S2x125x256 := by
  unfold V V0
  simp only [List.flatten_cons, List.flatten_nil, List.append_nil]
  after_results
  rfl

/-- The reshaped argument at an index. -/
theorem entry_at (a : (⟨S2x125x16x16, .f32⟩ : BufTy).Contents (Elt Ideal)) (b : Fin 2) (q : Fin 125) (p : Fin 256) :
    shapeCast S2x125x256 a shapeCasts_S2x125x16x16_S2x125x256 (ix3 b q p) = batchOf a b (ix3 0 q p) := by
  pointwise [batchOf]

/-- The input's block is the point's batch. -/
theorem index_in : ∀ t : Fin cfg0.N, win0_0.index t = ![t.val, 0, 0] := (by decide +kernel : ∀ t : Fin grid0.N, _)

/-- The output's block is the point's batch. -/
theorem index_out : ∀ t : Fin cfg0.N, win0_1.index t = ![t.val, 0, 0] := (by decide +kernel : ∀ t : Fin grid0.N, _)

/-- The block at a point. -/
theorem block_at (t : Fin cfg0.N) : iblk m c 0 t = batchOf (m ((c.tc : Thread nD τ).loc main_arg0)) ⟨t.val, t.isLt⟩ := by
  funext y
  have e : ((win0_0.blk t).view.emb y : S2x125x256.Idx) = ix3 ⟨t.val, t.isLt⟩ (y 1) (y 2) := by
    blk_ext [index_in]
  have h : iblk m c 0 t y = V m c main_v0 ((win0_0.blk t).view.emb y) := by
    blk_simp [iblk]
  rw [h, entry_eq, e]
  exact (entry_at (m ((c.tc : Thread nD τ).loc main_arg0)) ⟨t.val, t.isLt⟩ (y 1) (y 2)).trans rfl

/-- The region's result. -/
theorem region_eq : (dats m 0 c).arrAt 1 cfg0.N = tables (m ((c.tc : Thread nD τ).loc main_arg0)) := by
  refine (dats m 0 c).arrAt_eq_of_covers 1 _ (by decide +kernel) fun t hf y => ?_
  blk_simp
  rw [after_out, block_at]
  have e : ((win0_1.blk t).view.emb y : S2x8x1280.Idx) = ix3 ⟨t.val, t.isLt⟩ (y 1) (y 2) := by
    blk_ext [index_out]
  rw [e]
  unfold tables
  refine congrArg (outVal _) (funext fun a => ?_)
  match a with
  | 0 => exact Subsingleton.elim (α := Fin 1) _ _
  | 1 => rfl
  | 2 => rfl

/-- The host lines' result. -/
theorem tail_eq : Pipeline.afterTail₀ cfgs (dats m) 0 (V0 m) [hostOps1] c main_v3
    = transpose S2x1280x7 [0, 2, 1] (extractStridedSlice S2x7x1280 ![0, 0, 0] (tables (m ((c.tc : Thread nD τ).loc main_arg0))) slices_S2x8x1280_S2x7x1280_0_0_0)
      transposes_S2x7x1280_S2x1280x7_0_2_1 := by
  unfold Pipeline.afterTail₀
  rw [← region_eq]
  simp only [List.flatten_cons, List.flatten_nil, List.append_nil]
  after_results
  rw [show Pipeline.withArrays (cfgs 0).spec c (V0 m c) (fun w => (dats m 0 c).arrAt w (cfgs 0).N) (Proc.tc.devRef main_v1) = (dats m 0 c).arrAt 1 cfg0.N
    from Pipeline.withArrays_arr spec0 (by decide) c (V0 m c) (fun w => (dats m 0 c).arrAt w cfg0.N) 1]

end Cert.KernelIdeal.Hand

end

end
-- ==== Proof.Spec.lean ====
module

public import Idealize.ShloMosaic.PureOps
public import Idealize.ShloMosaic.Lib.IdealHost
public import Mathlib.Data.EReal.Operations

@[expose] public section

noncomputable section

/-!
# Greedy suppression of boxes

A table gives every box seven numbers: its score, the centre, the width and the height, the class and the class's score. A box hits a
later one when its score is positive and their overlap reaches the threshold. A box is kept when no kept box hits it.
-/

namespace Cert.Boxes

open Idealize.ShloMosaic

/-- One half. -/
def half : EReal := Ideal.ofBits .f32 0x3F000000#32

/-- The threshold of the overlap. -/
def thr : EReal := Ideal.ofBits .f32 0x3EE66666#32

/-- How far two intervals, given by centre and width, overlap. -/
def reach (c w c' w' : EReal) : EReal := max (min (c + half * w) (c' + half * w') - max (c - half * w) (c' - half * w')) 0

/-- The common area of two boxes. -/
def common (p q : Fin 7 → EReal) : EReal := reach (p 1) (p 3) (q 1) (q 3) * reach (p 2) (p 4) (q 2) (q 4)

/-- The common area over the area of the union. -/
def overlap (p q : Fin 7 → EReal) : EReal := Ideal.div (common p q) (p 3 * p 4 + q 3 * q 4 - common p q)

/-- Box `i` hits the later box `j`. -/
def hits (T : Fin 1280 → Fin 7 → EReal) (i j : Fin 1280) : Prop := thr ≤ overlap (T i) (T j) ∧ i < j ∧ 0 < T i 0

/-- Box `j` is kept: no kept box hits it. -/
def alive (T : Fin 1280 → Fin 7 → EReal) (j : Fin 1280) : Prop := ∀ i, (h : i < j) → alive T i → ¬ hits T i j
  termination_by j.val

/-- One of the first `n` boxes is kept and hits box `j`. -/
def killed (T : Fin 1280 → Fin 7 → EReal) (n : Nat) (j : Fin 1280) : Prop := ∃ i : Fin 1280, i.val < n ∧ alive T i ∧ hits T i j

variable (T : Fin 1280 → Fin 7 → EReal)

/-- What being kept is. -/
theorem alive_iff (j : Fin 1280) : alive T j ↔ ∀ i, i < j → alive T i → ¬ hits T i j := by rw [alive]

/-- None of no boxes hits. -/
theorem not_killed_zero (j : Fin 1280) : ¬ killed T 0 j := fun ⟨_, h, _⟩ => Nat.not_lt_zero _ h

/-- One box more. -/
theorem killed_succ (n : Nat) (hn : n < 1280) (j : Fin 1280) : killed T (n + 1) j ↔ killed T n j ∨ (alive T ⟨n, hn⟩ ∧ hits T ⟨n, hn⟩ j) := by
  constructor
  · rintro ⟨i, hi, ha, hh⟩
    rcases Nat.lt_succ_iff_lt_or_eq.1 hi with h | h
    · exact .inl ⟨i, h, ha, hh⟩
    · obtain rfl : i = ⟨n, hn⟩ := Fin.ext h
      exact .inr ⟨ha, hh⟩
  · rintro (⟨i, hi, ha, hh⟩ | ⟨ha, hh⟩)
    · exact ⟨i, by omega, ha, hh⟩
    · exact ⟨⟨n, hn⟩, Nat.lt_succ_self n, ha, hh⟩

/-- A box is kept exactly when none of the boxes before it, or of any more boxes, is kept and hits it. -/
theorem not_killed_iff (n : Nat) (j : Fin 1280) (h : j.val ≤ n) : ¬ killed T n j ↔ alive T j := by
  rw [alive_iff]
  constructor
  · exact fun hk i hi ha hh => hk ⟨i, lt_of_lt_of_le hi h, ha, hh⟩
  · rintro hk ⟨i, -, ha, hh⟩
    exact hk i hh.2.1 ha hh

/-- A block of boxes more. -/
theorem killed_block (base : Nat) (hb : base + 128 ≤ 1280) (j : Fin 1280) :
    killed T (base + 128) j ↔ killed T base j ∨ ∃ k : Fin 128, alive T ⟨base + k, by omega⟩ ∧ hits T ⟨base + k, by omega⟩ j := by
  constructor
  · rintro ⟨i, hi, ha, hh⟩
    by_cases h : i.val < base
    · exact .inl ⟨i, h, ha, hh⟩
    · have e : i = ⟨base + (i.val - base), by omega⟩ := Fin.ext (by show i.val = base + (i.val - base); omega)
      exact .inr ⟨⟨i.val - base, by omega⟩, e ▸ ha, e ▸ hh⟩
  · rintro (⟨i, hi, ha, hh⟩ | ⟨k, ha, hh⟩)
    · exact ⟨i, by omega, ha, hh⟩
    · exact ⟨_, by show base + k.val < base + 128; omega, ha, hh⟩

/-- A block of boxes without positive scores hits nothing. -/
theorem killed_skip (base : Nat) (hp : ∀ i : Fin 1280, base ≤ i.val → ¬ 0 < T i 0) (n : Nat) (hn : base ≤ n) (j : Fin 1280) : killed T n j ↔ killed T base j := by
  constructor
  · rintro ⟨i, hi, ha, hh⟩
    by_cases h : i.val < base
    · exact ⟨i, h, ha, hh⟩
    · exact absurd hh.2.2 (hp i (by omega))
  · rintro ⟨i, hi, ha, hh⟩
    exact ⟨i, by omega, ha, hh⟩

open Classical in
/-- The number of a proposition: one or zero. -/
def ind (p : Prop) : EReal := if p then 1 else 0

/-- A choice between one and zero is the number of its condition. -/
theorem ite_eq_ind (p q : Prop) [Decidable p] (h : p ↔ q) : (if p then (1 : EReal) else 0) = ind q := by
  unfold ind
  by_cases hq : q
  · rw [if_pos (h.2 hq), if_pos hq]
  · rw [if_neg (fun hp => hq (h.1 hp)), if_neg hq]

/-- One half is one half. -/
theorem half_eq : half = ((1 / 2 : ℝ) : EReal) := by
  unfold half
  simp [Ideal.ofBits, Ideal.ieee]
  rw [← EReal.coe_mul]
  norm_num

/-- The threshold is a real number. -/
theorem thr_eq : ∃ r : ℝ, thr = (r : EReal) := by
  unfold thr
  simp [Ideal.ofBits, Ideal.ieee]
  exact ⟨_, (EReal.coe_mul _ _).symm⟩

/-- Being below one half. -/
theorem ind_lt_half (p : Prop) : ind p < half ↔ ¬ p := by
  rw [half_eq]
  unfold ind
  by_cases h : p
  · simp only [h, if_true, not_true, iff_false, not_lt]
    exact_mod_cast (by norm_num : (1 / 2 : ℝ) ≤ 1)
  · simp only [h, if_false, not_false_iff, iff_true]
    exact_mod_cast (by norm_num : (0 : ℝ) < 1 / 2)

/-- Reaching one half. -/
theorem half_le_ind (p : Prop) : half ≤ ind p ↔ p := by
  rw [← not_lt, ind_lt_half, not_not]

/-- The greater of two numbers of propositions. -/
theorem ind_or_max (p q : Prop) : max (ind p) (ind q) = ind (p ∨ q) := by
  unfold ind
  by_cases hp : p <;> by_cases hq : q <;> simp [hp, hq]

/-- The product of two numbers of propositions. -/
theorem ind_and_mul (p q : Prop) : ind p * ind q = ind (p ∧ q) := by
  unfold ind
  by_cases hp : p <;> by_cases hq : q <;> simp [hp, hq]

/-- The number of a proposition is not negative. -/
theorem ind_nonneg (p : Prop) : 0 ≤ ind p := by
  unfold ind
  by_cases hp : p <;> simp [hp]

/-- A sum of numbers of propositions is positive when one of them holds. -/
theorem sum_ind_pos {n : Nat} (p : Fin n → Prop) : 0 < ∑ k, ind (p k) ↔ ∃ k, p k := by
  constructor
  · intro h
    by_contra hn
    rw [Finset.sum_eq_zero (fun k _ => by unfold ind; rw [if_neg (fun hk => hn ⟨k, hk⟩)])] at h
    exact lt_irrefl _ h
  · rintro ⟨k, hk⟩
    refine lt_of_lt_of_le (a := 0) (b := ind (p k)) (by unfold ind; rw [if_pos hk]; exact zero_lt_one) ?_
    exact Finset.single_le_sum (f := fun k => ind (p k)) (fun k _ => ind_nonneg _) (Finset.mem_univ k)

/-- A sum of numbers of propositions counts. -/
theorem sum_ind_card {n : Nat} (p : Fin n → Prop) [DecidablePred p] : ∑ k, ind (p k) = (((Finset.univ.filter p).card : ℝ) : EReal) := by
  have e : ∀ k, ind (p k) = if p k then (1 : EReal) else 0 := fun k => (ite_eq_ind _ _ Iff.rfl).symm
  rw [Finset.sum_congr rfl (fun k _ => e k), Finset.sum_boole]
  norm_cast

open Classical in
/-- The scores that are left. -/
def left (j : Fin 1280) : EReal := if alive T j then T j 0 else 0

end Cert.Boxes

end

end
-- ==== Proof.Sweep.lean ====
module

public import proofs.«01_k».proof.Proof.RunIdeal
public import proofs.«01_k».proof.Proof.Spec
public import Idealize.ShloMosaic.Lib.Pointwise
public import Idealize.ShloMosaic.Lib.IdealHost

@[expose] public section

set_option maxRecDepth 16384

noncomputable section

/-!
# The kernel's sweep is greedy suppression

Over the extended reals every flag of the sweep is the number of a proposition: after the first blocks, that one of their kept boxes hits
the box of the flag.
-/

namespace Cert.KernelIdeal.Hand

open Idealize.ShloMosaic Cert.Boxes
open Cert.KernelIdeal Cert.KernelIdeal.Gen

/-- One step of the sweep in a block, on flags that are numbers of propositions. -/
theorem step_ind (i : Nat) (h : i < 128) (sb row : FVec Ideal S1x128 .f32) (Q R : Fin 128 → Prop) (hs : ∀ l, sb (ix2 0 l) = ind (Q l))
    (hr : ∀ l, row (ix2 0 l) = ind (R l)) (l : Fin 128) : nmsStep i h sb row (ix2 0 l) = ind (Q l ∨ (¬ Q ⟨i, h⟩ ∧ R l)) := by
  have e : nmsStep i h sb row (ix2 0 l) = if sb (ix2 0 ⟨i, h⟩) < half then max (sb (ix2 0 l)) (row (ix2 0 l)) else sb (ix2 0 l) := by
    pointwise [nmsStep]
    rfl
  rw [e, hs, hs, hr, ind_or_max]
  by_cases hq : Q ⟨i, h⟩
  · rw [if_neg (mt (ind_lt_half _).1 (not_not.2 hq))]
    simp [hq]
  · rw [if_pos ((ind_lt_half _).2 hq)]
    simp [hq]

/-- What a block adds to the flags. -/
theorem contrib_ind (sb : FVec Ideal S1x128 .f32) (rows : FVec Ideal S128x1280 .f32) (supp : FVec Ideal S10x128 .f32) (Q : Fin 128 → Prop) (H : Fin 128 → Fin 1280 → Prop)
    (P : Fin 1280 → Prop) (hs : ∀ l, sb (ix2 0 l) = ind (Q l)) (hr : ∀ k j, rows (ix2 k j) = ind (H k j))
    (hp : ∀ (r : Fin 10) (l : Fin 128), supp (ix2 r l) = ind (P ⟨r.val * 128 + l.val, by omega⟩)) (r : Fin 10) (l : Fin 128) :
    nmsContrib sb rows supp (ix2 r l) = ind (P ⟨r.val * 128 + l.val, by omega⟩ ∨ ∃ k, ¬ Q k ∧ H k ⟨r.val * 128 + l.val, by omega⟩) := by
  have e : nmsContrib sb rows supp (ix2 r l) = max (supp (ix2 r l))
      (if 0 < ∑ k, (if sb (ix2 0 k) < half then (1 : EReal) else 0) * rows (ix2 k ⟨r.val * 128 + l.val, by omega⟩) then 1 else 0) := by
    pointwise [nmsContrib, flags]
    rfl
  have hsum : ∀ k, (if sb (ix2 0 k) < half then (1 : EReal) else 0) * rows (ix2 k ⟨r.val * 128 + l.val, by omega⟩)
      = ind (¬ Q k ∧ H k ⟨r.val * 128 + l.val, by omega⟩) := fun k => by
    rw [hr, hs, ite_eq_ind _ _ (ind_lt_half (Q k)), ind_and_mul]
  rw [e, hp, Finset.sum_congr rfl (fun k _ => hsum k), ite_eq_ind _ _ (sum_ind_pos _), ind_or_max]

/-- A row of the column scratch, read. -/
theorem diagRow_at (D : Vec Ideal S1280x128 .f32) (r : Nat) (h : r < 1280) (l : Fin 128) : diagRow D r h (ix2 0 l) = D (ix2 ⟨r, h⟩ l) := by
  unfold diagRow
  congr 1
  funext a
  match a with
  | 0 => exact Fin.ext (by show r + 1 * 0 = r; omega)
  | 1 => exact Fin.ext (by show 0 + 1 * l.val = l.val; omega)

/-- A row of the flags, read. -/
theorem suppRow_at (X : Vec Ideal S10x128 .f32) (kb : Nat) (h : kb < 10) (l : Fin 128) : suppRow X kb h (ix2 0 l) = X (ix2 ⟨kb, h⟩ l) := by
  unfold suppRow
  congr 1
  funext a
  match a with
  | 0 => exact Fin.ext (by show kb + 1 * 0 = kb; omega)
  | 1 => exact Fin.ext (by show 0 + 1 * l.val = l.val; omega)

/-- A block of rows of the square scratch, read. -/
theorem blkRows_at (X : Vec Ideal S1280x1280 .f32) (base : Nat) (h : base + 128 ≤ 1280) (k : Fin 128) (j : Fin 1280) :
    blkRows X base h (ix2 k j) = X (ix2 ⟨base + k.val, by omega⟩ j) := by
  unfold blkRows
  congr 1
  funext a
  match a with
  | 0 => exact Fin.ext (by show base + 1 * k.val = base + k.val; omega)
  | 1 => exact Fin.ext (by show 0 + 1 * j.val = j.val; omega)

variable (T : Fin 1280 → Fin 7 → EReal)

/-- The loop over a block's boxes. -/
theorem loop_ind (D : Vec Ideal S1280x128 .f32) (base : Nat) (hb : base + 128 ≤ 1280)
    (hD : ∀ k l : Fin 128, D (ix2 ⟨base + k.val, by omega⟩ l) = ind (hits T ⟨base + k.val, by omega⟩ ⟨base + l.val, by omega⟩)) :
    ∀ (n : Nat) (hn : n ≤ 128) (sb : FVec Ideal S1x128 .f32), (∀ l : Fin 128, sb (ix2 0 l) = ind (killed T (base + (128 - n)) ⟨base + l.val, by omega⟩)) →
      ∀ l : Fin 128, loopVal D base hb n sb (ix2 0 l) = ind (killed T (base + 128) ⟨base + l.val, by omega⟩) := by
  intro n
  induction n with
  | zero => exact fun _ sb hs l => hs l
  | succ n ih =>
    intro hn sb hs l
    refine ih (by omega) _ (fun l => ?_) l
    rw [step_ind (127 - n) (by omega) sb _ _ _ hs (fun l => by rw [diagRow_at]; exact hD ⟨127 - n, by omega⟩ l) l]
    congr 1
    rw [show base + (128 - n) = base + (127 - n) + 1 from by omega, show base + (128 - (n + 1)) = base + (127 - n) from by omega,
      killed_succ T _ (by omega)]
    exact propext (or_congr Iff.rfl (and_congr (not_killed_iff T _ _ (le_refl _)) Iff.rfl))

/-- The flags say which boxes the kept ones among the first `n` hit. -/
def Marks (n : Nat) (X : Vec Ideal S10x128 .f32) : Prop := ∀ (r : Fin 10) (l : Fin 128), X (ix2 r l) = ind (killed T n ⟨r.val * 128 + l.val, by omega⟩)

/-- One block. -/
theorem block_marks (M : Vec Ideal S1280x1280 .f32) (D : Vec Ideal S1280x128 .f32) (hM : ∀ i j : Fin 1280, M (ix2 i j) = ind (hits T i j))
    (kb : Nat) (hk : kb < 10)
    (hD : ∀ k l : Fin 128, D (ix2 ⟨128 * kb + k.val, by omega⟩ l) = ind (hits T ⟨128 * kb + k.val, by omega⟩ ⟨128 * kb + l.val, by omega⟩))
    (X : Vec Ideal S10x128 .f32) (hX : Marks T (128 * kb) X) : Marks T (128 * (kb + 1)) (blockVal M D kb hk X) := by
  intro r l
  have hl := loop_ind T D (128 * kb) (by omega) hD 128 (le_refl _) (suppRow X kb hk) (fun l => by
    rw [suppRow_at, hX]
    congr 2
    exact Fin.ext (by show kb * 128 + l.val = 128 * kb + l.val; omega))
  unfold blockVal
  rw [contrib_ind _ _ X _ (fun k j => hits T ⟨128 * kb + k.val, by omega⟩ j) _ hl (fun k j => by rw [blkRows_at, hM]) hX]
  congr 1
  rw [show 128 * (kb + 1) = 128 * kb + 128 from by omega, killed_block T (128 * kb) (by omega)]
  refine propext (or_congr Iff.rfl (exists_congr fun k => and_congr ?_ Iff.rfl))
  exact not_killed_iff T _ _ (by show 128 * kb + k.val ≤ 128 * kb + 128; omega)

/-- Several conditional blocks. -/
theorem sweep_marks (M : Vec Ideal S1280x1280 .f32) (D : Vec Ideal S1280x128 .f32) (nb : BitVec 32) (hM : ∀ i j : Fin 1280, M (ix2 i j) = ind (hits T i j))
    (hD : ∀ (kb : Nat) (hk : kb < 10) (k l : Fin 128), D (ix2 ⟨128 * kb + k.val, by omega⟩ l) = ind (hits T ⟨128 * kb + k.val, by omega⟩ ⟨128 * kb + l.val, by omega⟩))
    (hnb : ∀ kb, kb < 10 → liveBit nb kb ≠ 1#1 → ∀ i : Fin 1280, 128 * kb ≤ i.val → ¬ 0 < T i 0) :
    ∀ (n kb : Nat) (h : kb + n ≤ 10) (X : Vec Ideal S10x128 .f32), Marks T (128 * kb) X → Marks T (128 * (kb + n)) (sweepVal M D nb n kb h X) := by
  intro n
  induction n with
  | zero => exact fun kb h X hX => hX
  | succ n ih =>
    intro kb h X hX
    rw [show kb + (n + 1) = kb + 1 + n from by omega]
    refine ih (kb + 1) (by omega) _ ?_
    by_cases hl : liveBit nb kb = 1#1
    · rw [if_pos hl]
      exact block_marks T M D hM kb (by omega) (hD kb (by omega)) X hX
    · rw [if_neg hl]
      intro r l
      rw [hX r l]
      congr 1
      exact propext (killed_skip T (128 * kb) (hnb kb (by omega) hl) _ (by omega) _).symm

/-- What is kept of the scores. -/
theorem kept_marks (st : FVec Ideal S8x1280 .f32) (X : Vec Ideal S10x128 .f32) (hX : Marks T 1280 X) (hT : ∀ j, st (ix2 0 j) = T j 0) (j : Fin 1280) :
    keptOf st X (ix2 0 j) = left T j := by
  have e : keptOf st X (ix2 0 j) = if half ≤ X (ix2 ⟨j.val / 128, by omega⟩ ⟨j.val % 128, by omega⟩) then 0 else st (ix2 0 j) := by
    pointwise [keptOf, ssOf, fieldOf]
    rfl
  have ej : (⟨j.val / 128 * 128 + j.val % 128, by omega⟩ : Fin 1280) = j := Fin.ext (by show j.val / 128 * 128 + j.val % 128 = j.val; omega)
  rw [e, hX, hT]
  simp only [ej]
  unfold left
  rw [← not_killed_iff T 1280 j (le_of_lt j.2)]
  by_cases hk : killed T 1280 j
  · rw [if_pos ((half_le_ind _).2 hk), if_neg (not_not.2 hk)]
  · rw [if_neg (fun h => hk ((half_le_ind _).1 h)), if_pos hk]

end Cert.KernelIdeal.Hand

end

end
-- ==== Proof.Overlaps.lean ====
module

public import proofs.«01_k».proof.Proof.Sweep
public import Idealize.ShloMosaic.Lib.WordCmp
public import Mathlib.Order.Interval.Finset.Fin

@[expose] public section

set_option maxRecDepth 16384

noncomputable section

/-!
# The kernel's table of hits

Its entry for two boxes is the number of the proposition that the one hits the other, provided the scores do not increase: then the boxes
with positive scores are the first ones, as many as the kernel counts.
-/

namespace Cert.KernelIdeal.Hand

open Idealize.ShloMosaic Cert.Boxes
open Cert.KernelIdeal Cert.KernelIdeal.Gen

open Classical in
/-- When scores do not increase, the positive ones are the first ones. -/
theorem pos_iff_lt_card {n : Nat} (s : Fin n → EReal) (hs : ∀ i j, i ≤ j → s j ≤ s i) (i : Fin n) : i.val < (Finset.univ.filter fun j => 0 < s j).card ↔ 0 < s i := by
  constructor
  · intro h
    by_contra hn
    have hsub : (Finset.univ.filter fun j => 0 < s j) ⊆ Finset.Iio i := fun j hj => by
      rw [Finset.mem_Iio]
      refine lt_of_not_ge fun hij => hn (lt_of_lt_of_le (Finset.mem_filter.1 hj).2 (hs i j hij))
    have := Finset.card_le_card hsub
    rw [Fin.card_Iio] at this
    omega
  · intro h
    have hsub : Finset.Iic i ⊆ (Finset.univ.filter fun j => 0 < s j) := fun j hj =>
      Finset.mem_filter.2 ⟨Finset.mem_univ _, lt_of_lt_of_le h (hs j i (Finset.mem_Iic.1 hj))⟩
    have := Finset.card_le_card hsub
    rw [Fin.card_Iic] at this
    omega

/-- The columns of the kernel's sorted table, without its eighth row. -/
def cols (st : FVec Ideal S8x1280 .f32) : Fin 1280 → Fin 7 → EReal := fun j r => st (ix2 r.castSucc j)

open Classical in
/-- How many scores are positive. -/
def posCount (st : FVec Ideal S8x1280 .f32) : Nat := (Finset.univ.filter fun j : Fin 1280 => 0 < st (ix2 0 j)).card

/-- There are at most as many as boxes. -/
theorem posCount_le (st : FVec Ideal S8x1280 .f32) : posCount st ≤ 1280 := by
  unfold posCount
  exact le_trans (Finset.card_le_univ _) (le_of_eq (Fintype.card_fin 1280))

/-- The kernel's count. -/
theorem npos_eq (st : FVec Ideal S8x1280 .f32) : nposOf st = BitVec.ofNat 32 (posCount st) := by
  have e : nposOf st = Ideal.fptosi 32 (∑ _x : Fin 1, ∑ j : Fin 1280, if 0 < st (ix2 0 j) then (1 : EReal) else 0) := by
    pointwise [nposOf, flags, ssOf, fieldOf]
  have hle := posCount_le st
  rw [e, Finset.sum_congr rfl (fun _ _ => Finset.sum_congr rfl fun j _ => ite_eq_ind _ _ Iff.rfl), Fin.sum_const, one_smul, sum_ind_card]
  change Ideal.fptosi 32 (((posCount st : ℝ)) : EReal) = _
  rw [Ideal.fptosi, Ideal.toIntClamped_coe, if_pos (Nat.cast_nonneg _), Int.floor_natCast, ← BitVec.ofInt_natCast]
  congr 1
  rw [min_eq_right (by norm_num; omega), max_eq_right (by norm_num)]

/-- A position below the count, as the kernel compares them. -/
theorem word_lt (n c : Nat) (hn : n < 1280) (hc : c ≤ 1280) : (BitVec.ofNat 32 n).toInt < (BitVec.ofNat 32 c).toInt ↔ n < c := by
  rw [BitVec.toInt_eq_toNat_of_lt (by simp only [BitVec.toNat_ofNat]; omega), BitVec.toInt_eq_toNat_of_lt (by simp only [BitVec.toNat_ofNat]; omega)]
  simp only [BitVec.toNat_ofNat]
  omega

/-- The table of hits, read. -/
theorem sup_at (st : FVec Ideal S8x1280 .f32) (hs : ∀ i j : Fin 1280, i ≤ j → st (ix2 0 j) ≤ st (ix2 0 i)) (base : Nat) (h : base + 128 ≤ 1280) (k : Fin 128)
    (j : Fin 1280) : supBlk st base h (ix2 k j) = ind (hits (cols st) ⟨base + k.val, by omega⟩ j) := by
  have e : supBlk st base h (ix2 k j) = Scalar.select (IntOp.andi (IntOp.andi
      (BitVec.ofBool (decide (thr ≤ overlap (cols st ⟨base + k.val, by omega⟩) (cols st j))))
      (IntOp.cmpi .sgt (BitVec.ofNat 32 j.val) (IntOp.addi (BitVec.ofNat 32 base) (BitVec.ofNat 32 k.val))))
      (IntOp.cmpi .slt (IntOp.addi (BitVec.ofNat 32 base) (BitVec.ofNat 32 k.val)) (nposOf st))) (1 : EReal) 0 := by
    pointwise [supBlk, flags, iouOf, interOf, mineOf, allOf, areaOf, packOf, lxOf, rxOf, uyOf, dyOf, sxOf, syOf, swOf, shOf, halfOf, fieldOf, colIota, rowIota]
    rfl
  have ea : IntOp.addi (BitVec.ofNat 32 base) (BitVec.ofNat 32 k.val) = BitVec.ofNat 32 (base + k.val) := (BitVec.ofNat_add ..).symm
  rw [e, ea, npos_eq, WordCmp.cmpi_sgt_eq, WordCmp.cmpi_slt_eq, WordCmp.andi_ofBool, WordCmp.andi_ofBool]
  unfold Scalar.select
  refine ite_eq_ind _ _ ?_
  have hc := posCount_le st
  rw [WordCmp.ofBool_eq_one_iff']
  simp only [Bool.and_eq_true, decide_eq_true_eq]
  rw [word_lt _ _ (by omega) (by omega), word_lt _ _ (by omega) hc, and_assoc]
  exact and_congr Iff.rfl (and_congr Iff.rfl (pos_iff_lt_card (fun j => st (ix2 0 j)) hs ⟨base + k.val, by omega⟩))

/-- The kernel's number of blocks leaves out only blocks behind the count. -/
theorem live_table : ∀ c : Fin 1281, ∀ kb : Fin 10, liveBit (nblkOf (BitVec.ofNat 32 c.val)) kb.val ≠ 1#1 → c.val ≤ 128 * kb.val := by
  decide +kernel

/-- A block that is left out has no positive score. -/
theorem live_pos (st : FVec Ideal S8x1280 .f32) (hs : ∀ i j : Fin 1280, i ≤ j → st (ix2 0 j) ≤ st (ix2 0 i)) (kb : Nat) (hk : kb < 10)
    (hl : liveBit (nblkOf (nposOf st)) kb ≠ 1#1) (i : Fin 1280) (hi : 128 * kb ≤ i.val) : ¬ 0 < cols st i 0 := by
  rw [npos_eq] at hl
  have hc := live_table ⟨posCount st, Nat.lt_succ_of_le (posCount_le st)⟩ ⟨kb, hk⟩ hl
  intro hp
  have := (pos_iff_lt_card (fun j => st (ix2 0 j)) hs i).2 hp
  exact absurd (lt_of_lt_of_le this hc) (not_lt.2 hi)

/-- The rows of all blocks, read. -/
theorem rowsAll_at (B : (kb : Nat) → 128 * kb + 128 ≤ 1280 → Vec Ideal S128x1280 .f32) (P : Fin 1280 → Fin 1280 → EReal)
    (hB : ∀ kb (h : 128 * kb + 128 ≤ 1280) (k : Fin 128) (j : Fin 1280), B kb h (ix2 k j) = P ⟨128 * kb + k.val, by omega⟩ j) (i j : Fin 1280) :
    rowsAll B (ix2 i j) = P i j := by
  have ei : (⟨128 * (i.val / 128) + i.val % 128, by omega⟩ : Fin 1280) = i := Fin.ext (by show 128 * (i.val / 128) + i.val % 128 = i.val; omega)
  have := hB (i.val / 128) (by omega) ⟨i.val % 128, Nat.mod_lt _ (by decide)⟩ j
  rw [ei] at this
  rw [← this]
  unfold rowsAll
  congr 1
  funext a
  match a with
  | 0 => rfl
  | 1 => rfl

/-- The squares of all blocks, read. -/
theorem squaresAll_at (B : (kb : Nat) → 128 * kb + 128 ≤ 1280 → Vec Ideal S128x128 .f32) (kb : Nat) (h : 128 * kb + 128 ≤ 1280) (k l : Fin 128) :
    squaresAll B (ix2 ⟨128 * kb + k.val, by omega⟩ l) = B kb h (ix2 k l) := by
  have e1 : (128 * kb + k.val) / 128 = kb := by omega
  have e2 : (128 * kb + k.val) % 128 = k.val := by omega
  have go : ∀ (q m : Nat) (hq : 128 * q + 128 ≤ 1280) (hm : m < 128), q = kb → m = k.val →
      B q hq (fun a => match a with | 0 => ⟨m, hm⟩ | 1 => l) = B kb h (ix2 k l) := by
    rintro q m hq hm rfl rfl
    congr 1
    funext a
    match a with
    | 0 => rfl
    | 1 => rfl
  exact go _ _ _ (Nat.mod_lt _ (by decide)) e1 e2

/-- The flags after the whole sweep. -/
theorem flags_marks (st : FVec Ideal S8x1280 .f32) (hs : ∀ i j : Fin 1280, i ≤ j → st (ix2 0 j) ≤ st (ix2 0 i)) :
    Marks (cols st) 1280 (flagsVal st (rowsAll fun kb h => supBlk st (128 * kb) h) (squaresAll fun kb h => diagBlk st (128 * kb) h)) := by
  have hM := rowsAll_at (fun kb h => supBlk st (128 * kb) h) (fun i j => ind (hits (cols st) i j)) (fun kb h k j => sup_at st hs (128 * kb) h k j)
  have hD : ∀ (kb : Nat) (hk : kb < 10) (k l : Fin 128), squaresAll (fun kb h => diagBlk st (128 * kb) h) (ix2 ⟨128 * kb + k.val, by omega⟩ l)
      = ind (hits (cols st) ⟨128 * kb + k.val, by omega⟩ ⟨128 * kb + l.val, by omega⟩) := fun kb hk k l => by
    rw [squaresAll_at _ kb (by omega) k l, ← sup_at st hs (128 * kb) (by omega) k ⟨128 * kb + l.val, by omega⟩]
    pointwise [diagBlk]
  have hnb := fun kb hk hl i hi => live_pos st hs kb hk hl i hi
  unfold flagsVal
  refine sweep_marks (cols st) _ _ _ hM hD hnb 8 2 (by decide) _ (sweep_marks (cols st) _ _ _ hM hD hnb 2 0 (by decide) _ fun r l => ?_)
  have e : (noFlags (F := Ideal)) (ix2 r l) = 0 := by
    pointwise [noFlags]
  rw [e]
  unfold ind
  rw [if_neg (not_killed_zero _ _)]

/-- The scores the kernel keeps. -/
theorem kept_at (st : FVec Ideal S8x1280 .f32) (hs : ∀ i j : Fin 1280, i ≤ j → st (ix2 0 j) ≤ st (ix2 0 i)) (j : Fin 1280) :
    keptOf st (flagsVal st (rowsAll fun kb h => supBlk st (128 * kb) h) (squaresAll fun kb h => diagBlk st (128 * kb) h)) (ix2 0 j) = left (cols st) j :=
  kept_marks (cols st) st _ (flags_marks st hs) (fun _ => rfl) j

end Cert.KernelIdeal.Hand

end

end
-- ==== Proof.Order.lean ====
module

public import Idealize.ShloMosaic.Lib.SortPrefix
public import Mathlib.Data.EReal.Basic
public import Mathlib.Order.Interval.Finset.Fin

@[expose] public section

/-!
# Sorting by descending keys

A stable sort of positions by descending key puts at place `p` the position that has exactly `p` positions before it, where a position
is before another when its key is greater, or the keys are equal and it is the lower one.
-/

namespace Cert.Boxes

open Idealize.ShloMosaic

variable {n : Nat} (key : Fin n → EReal)

/-- The position `a` has the greater key. -/
noncomputable def above (a b : Fin n) : Bool := decide (key b < key a)

/-- The position `a` comes before `b`: the greater key, or an equal key and the lower position. -/
noncomputable def ahead (a b : Fin n) : Bool := decide (key b < key a) || (decide (key a = key b) && decide (a < b))

/-- How many positions come before `k`. -/
noncomputable def rank (k : Fin n) : Nat := (Finset.univ.filter fun a => ahead key a k = true).card

/-- The position at place `p`. -/
noncomputable def place (p : Fin n) : Fin n := sortedFrom (ahead key) p

/-- Coming before is a strict total order. -/
theorem ahead_strict : StrictTotalBefore (ahead key) :=
  StrictTotalBefore.of_key_then_position (fun a b : EReal => decide (b < a)) key (fun a => by simp)
    (fun a b c h h' => by simp only [decide_eq_true_eq] at *; exact lt_trans h' h)
    (fun a b => by simp only [decide_eq_true_eq]; rcases lt_trichotomy a b with h | h | h <;> simp [h])

/-- On positions in increasing order the stable sort by the keys alone is the sort by key and position. -/
theorem stableSort_above (l : List (Fin n)) (hl : l.Pairwise (· < ·)) : stableSort (above key) l = stableSort (ahead key) l := by
  induction l with
  | nil => rfl
  | cons a l ih =>
    obtain ⟨ha, hl'⟩ := List.pairwise_cons.1 hl
    unfold stableSort
    rw [ih hl']
    refine insertBefore_congr _ _ a _ fun b hb => ?_
    have hab := ha b ((perm_stableSort _ l).mem_iff.1 hb)
    simp [above, ahead, not_lt.2 (le_of_lt hab)]

/-- The stable sort by the keys alone takes each place's position. -/
theorem sortedFrom_above (p : Fin n) : sortedFrom (above key) p = place key p := by
  have e : sortPositions n (above key) = sortPositions n (ahead key) := stableSort_above key _ (List.pairwise_lt_finRange n)
  unfold place sortedFrom
  simp only [List.get_eq_getElem, e]
  rfl

/-- Of two places the lower one's position comes first. -/
theorem place_ahead {p q : Fin n} (h : p < q) : ahead key (place key p) (place key q) = true := by
  have hs := (ahead_strict key).sorted_stableSort (List.finRange n)
  have hlt := List.pairwise_iff_getElem.1 hs p q (by rw [length_stableSort, List.length_finRange]; exact p.2)
    (by rw [length_stableSort, List.length_finRange]; exact q.2) h
  refine ((ahead_strict key).total (place key p) (place key q) fun e => ?_).resolve_right fun e => ?_
  · exact absurd (sortedFrom_injective _ e) (ne_of_lt h)
  · exact Bool.false_ne_true (hlt.symm.trans e)

/-- The position at place `p` has `p` positions before it. -/
theorem rank_place (p : Fin n) : rank key (place key p) = p := by
  have e : (Finset.univ.filter fun a => ahead key a (place key p) = true) = (Finset.Iio p).map ⟨place key, sortedFrom_injective _⟩ := by
    ext a
    obtain ⟨q, rfl⟩ := sortedFrom_surjective (ahead key) a
    simp only [Finset.mem_filter, Finset.mem_univ, true_and, Finset.mem_map, Finset.mem_Iio, Function.Embedding.coeFn_mk]
    constructor
    · intro h
      refine ⟨q, lt_of_not_ge fun hge => ?_, rfl⟩
      rcases lt_or_eq_of_le hge with hlt | rfl
      · have := (ahead_strict key).asymm _ _ (place_ahead key hlt)
        exact Bool.false_ne_true (this.symm.trans h)
      · exact Bool.false_ne_true (((ahead_strict key).irrefl _).symm.trans h)
    · rintro ⟨q', hq', e⟩
      have := sortedFrom_injective _ e
      subst this
      exact place_ahead key hq'
  unfold rank
  rw [e, Finset.card_map, Fin.card_Iio]

/-- A position has rank `p` exactly when it is the one at place `p`. -/
theorem rank_eq_iff (k p : Fin n) : rank key k = p ↔ k = place key p := by
  constructor
  · intro h
    obtain ⟨q, rfl⟩ := sortedFrom_surjective (ahead key) k
    have hq : rank key (sortedFrom (ahead key) q) = q := rank_place key q
    rw [hq] at h
    exact congrArg (place key) (Fin.ext h)
  · rintro rfl
    exact rank_place key p

/-- The keys do not increase along the places. -/
theorem place_antitone {p q : Fin n} (h : p ≤ q) : key (place key q) ≤ key (place key p) := by
  rcases lt_or_eq_of_le h with hlt | rfl
  · have := place_ahead key hlt
    simp only [ahead, Bool.or_eq_true, Bool.and_eq_true, decide_eq_true_eq] at this
    rcases this with h1 | ⟨h1, -⟩
    · exact le_of_lt h1
    · exact le_of_eq h1.symm
  · exact le_refl _

/-- The position at the first place has the greatest key, and every lower position a smaller one. -/
theorem place_first (h0 : 0 < n) (k : Fin n) : key k ≤ key (place key ⟨0, h0⟩) ∧ (k < place key ⟨0, h0⟩ → key k < key (place key ⟨0, h0⟩)) := by
  have h : ahead key k (place key ⟨0, h0⟩) = false := by
    have hc := rank_place key ⟨0, h0⟩
    unfold rank at hc
    have hc' := Finset.card_eq_zero.1 hc
    by_contra hne
    have : k ∈ (Finset.univ.filter fun a => ahead key a (place key ⟨0, h0⟩) = true) := by simpa using hne
    rw [hc'] at this
    exact absurd this (Finset.notMem_empty _)
  simp only [ahead, Bool.or_eq_false_iff, Bool.and_eq_false_iff, decide_eq_false_iff_not, not_lt] at h
  refine ⟨h.1, fun hlt => lt_of_le_of_ne h.1 fun e => ?_⟩
  rcases h.2 with h2 | h2
  · exact h2 e
  · exact absurd hlt (not_lt.2 h2)

end Cert.Boxes

end
-- ==== Proof.Sorted.lean ====
module

public import proofs.«01_k».proof.Proof.Overlaps
public import proofs.«01_k».proof.Proof.Order

@[expose] public section

set_option maxRecDepth 16384

noncomputable section

/-!
# The kernel's sorted table

The kernel counts for every box the boxes that come before it, marks the place of every box in a square and multiplies the table by the
square. Over the extended reals that takes the boxes in the sorted order.
-/

namespace Cert.KernelIdeal.Hand

open Idealize.ShloMosaic Cert.Boxes
open Cert.KernelIdeal Cert.KernelIdeal.Gen

/-- Two small words are in the order of their numbers. -/
theorem word_lt_word (n c : Nat) (hn : n < 1280) (hc : c < 1280) : (BitVec.ofNat 32 n).toInt < (BitVec.ofNat 32 c).toInt ↔ n < c :=
  word_lt n c hn (le_of_lt hc)

/-- The ranks of a block. -/
theorem rank_blk (obj : FVec Ideal S1x1280 .f32) (base : Nat) (h : base + 128 ≤ 1280) (k : Fin 128) (n : Fin 1280) (hn : base + k.val = n.val) :
    rankBlk obj base h (ix2 k 0) = ((rank (fun n => obj (ix2 0 n)) n : ℝ) : EReal) := by
  have e : rankBlk obj base h (ix2 k 0) = ∑ j : Fin 1280, Scalar.select
        (IntOp.ori (BitVec.ofBool (decide (obj (ix2 0 ⟨base + k.val, by omega⟩) < obj (ix2 0 j))))
          (IntOp.andi (BitVec.ofBool (decide (obj (ix2 0 j) = obj (ix2 0 ⟨base + k.val, by omega⟩))))
            (IntOp.cmpi .slt (BitVec.ofNat 32 j.val) (IntOp.addi (BitVec.ofNat 32 base) (BitVec.ofNat 32 k.val))))) (1 : EReal) 0 := by
    pointwise [rankBlk, flags, colIota, rowIota]
  have ea : IntOp.addi (BitVec.ofNat 32 base) (BitVec.ofNat 32 k.val) = BitVec.ofNat 32 n.val := by
    rw [← hn]
    exact (BitVec.ofNat_add ..).symm
  have en : (⟨base + k.val, by omega⟩ : Fin 1280) = n := Fin.ext hn
  rw [e]
  simp only [ea, en]
  unfold rank
  rw [← sum_ind_card]
  refine Finset.sum_congr rfl fun j _ => ?_
  rw [WordCmp.cmpi_slt_eq, WordCmp.andi_ofBool, WordCmp.ori_ofBool]
  unfold Scalar.select
  refine ite_eq_ind _ _ ?_
  rw [WordCmp.ofBool_eq_one_iff']
  unfold ahead
  simp only [word_lt_word _ _ j.2 n.2, Fin.lt_def]

/-- The ranks. -/
theorem rank_at (obj : FVec Ideal S1x1280 .f32) (n : Fin 1280) : rankOf obj (ix2 n 0) = ((rank (fun n => obj (ix2 0 n)) n : ℝ) : EReal) := by
  pointwise [rankOf]
  split_ifs
  all_goals exact rank_blk obj _ _ _ n (by show _ + _ = n.val; simp only []; omega)

/-- The square that marks the places. -/
theorem sel_at (x : Vec Ideal S1x125x256 .f32) (n j : Fin 1280) : selOf x (ix2 n j) = ind (n = place (fun n => objOf (inOf x) (ix2 0 n)) j) := by
  unfold selOf
  refine rowsAll_at _ (fun n j => ind (n = place (fun n => objOf (inOf x) (ix2 0 n)) j)) (fun kb h k j => ?_) n j
  have e : hotBlk (rankOf (objOf (inOf x))) (128 * kb) h (ix2 k j)
      = if (((BitVec.ofNat 32 j.val).toInt : ℝ) : EReal) = rankOf (objOf (inOf x)) (ix2 ⟨128 * kb + k.val, by omega⟩ 0) then (1 : EReal) else 0 := by
    pointwise [hotBlk, flags, colIota]
    rfl
  have hj : (BitVec.ofNat 32 j.val).toInt = j.val := by
    rw [BitVec.toInt_eq_toNat_of_lt (by simp only [BitVec.toNat_ofNat]; omega)]
    simp only [BitVec.toNat_ofNat]
    omega
  rw [e, rank_at, hj]
  refine ite_eq_ind _ _ ?_
  rw [EReal.coe_eq_coe_iff, ← rank_eq_iff, Int.cast_natCast, Nat.cast_inj]
  exact eq_comm

/-- The sorted table. -/
theorem sorted_at (x : Vec Ideal S1x125x256 .f32) (r : Fin 8) (j : Fin 1280) :
    sortedVal x (ix2 r j) = detOf (inOf x) (ix2 r (place (fun n => objOf (inOf x) (ix2 0 n)) j)) := by
  have e : sortedVal x (ix2 r j) = ∑ n : Fin 1280, detOf (inOf x) (ix2 r n) * selOf x (ix2 n j) := by
    unfold sortedVal
    pointwise [sortedOf]
  rw [e, Finset.sum_eq_single (place (fun n => objOf (inOf x) (ix2 0 n)) j)]
  · rw [sel_at]
    unfold ind
    rw [if_pos rfl, mul_one]
  · intro n _ hn
    rw [sel_at]
    unfold ind
    rw [if_neg hn, mul_zero]
  · exact fun h => absurd (Finset.mem_univ _) h

/-- The table's first row is the scores. -/
theorem det_zero (x : Vec Ideal S1x125x256 .f32) (n : Fin 1280) : detOf (inOf x) (ix2 0 n) = objOf (inOf x) (ix2 0 n) := by
  pointwise [detOf]

/-- The sorted scores do not increase. -/
theorem sorted_antitone (x : Vec Ideal S1x125x256 .f32) (i j : Fin 1280) (h : i ≤ j) : sortedVal x (ix2 0 j) ≤ sortedVal x (ix2 0 i) := by
  rw [sorted_at, sorted_at, det_zero, det_zero]
  exact place_antitone (fun n => objOf (inOf x) (ix2 0 n)) h

/-- The block's first row. -/
theorem outOf_first (a : FVec Ideal S1x1280 .f32) (b : FVec Ideal S6x1280 .f32) (z : FVec Ideal S1x1280 .f32) (j : Fin 1280) : outOf a b z (ix3 0 0 j) = a (ix2 0 j) := by
  pointwise [outOf]

/-- The block's other rows. -/
theorem outOf_other (a : FVec Ideal S1x1280 .f32) (b : FVec Ideal S6x1280 .f32) (z : FVec Ideal S1x1280 .f32) (r : Fin 8) (h1 : ¬ r.val < 1) (h7 : r.val - 1 < 6) (j : Fin 1280) :
    outOf a b z (ix3 0 r j) = b (ix2 ⟨r.val - 1, h7⟩ j) := by
  pointwise [outOf]
  rw [dif_neg h1, dif_pos h7]

/-- The block the kernel writes. -/
theorem out_at (x : Vec Ideal S1x125x256 .f32) (r : Fin 7) (j : Fin 1280) :
    outVal x (ix3 0 r.castSucc j) = if r = 0 then left (cols (sortedVal x)) j else cols (sortedVal x) j r := by
  unfold outVal
  by_cases h : r = 0
  · subst h
    rw [if_pos rfl]
    exact (outOf_first _ _ _ j).trans (kept_at (sortedVal x) (sorted_antitone x) j)
  · have hr : ¬ r.val < 1 := fun hr => h (Fin.ext (by show r.val = 0; omega))
    rw [if_neg h, outOf_other _ _ _ r.castSucc hr (show r.val - 1 < 6 by omega)]
    unfold cols
    pointwise
    congr 2
    exact Fin.ext (by show 1 + (r.val - 1) = r.val; omega)

end Cert.KernelIdeal.Hand

end

end
-- ==== Proof.Decode.lean ====
module

public import proofs.«01_k».proof.Proof.Order
public import Idealize.ShloMosaic.Lib.Pointwise
public import Idealize.ShloMosaic.Lib.IdealHost
public import Idealize.ShloMosaic.Lib.WordCmp

@[expose] public section

set_option maxRecDepth 16384

noncomputable section

/-!
# The boxes of a batch, decoded

A batch gives every anchor 25 channels of 256 cells: four for the box, one for the score and twenty for the classes. Box `256 a + p` is
the one of anchor `a` at cell `p`.
-/

namespace Cert.Boxes

open Idealize.ShloMosaic

/-- The number of cells in a row. -/
def sixteen : EReal := Ideal.ofBits .f32 0x41800000#32

/-- The anchors' widths. -/
def anchorW : Fin 5 → BitVec 32 := ![0x3FA93A93#32, 0x404C5604#32, 0x40A1C9B0#32, 0x411789B5#32, 0x4133C84B#32]

/-- The anchors' heights. -/
def anchorH : Fin 5 → BitVec 32 := ![0x3FDDA027#32, 0x40804D55#32, 0x4101952D#32, 0x409AE59F#32, 0x41201D15#32]

/-- The scores of the classes. -/
def classes (g : Fin 125 → Fin 256 → EReal) (c : Fin 5) (p : Fin 256) : Fin 20 → EReal := fun k => g ⟨c.val * 25 + (5 + k.val), by omega⟩ p

/-- The first class of the greatest score. -/
def bestClass (g : Fin 125 → Fin 256 → EReal) (c : Fin 5) (p : Fin 256) : Fin 20 := place (classes g c p) ⟨0, by decide⟩

/-- A box's seven numbers. -/
def decoded (g : Fin 125 → Fin 256 → EReal) (c : Fin 5) (p : Fin 256) : Fin 7 → EReal :=
  ![g ⟨c.val * 25 + 4, by omega⟩ p,
    Ideal.div (g ⟨c.val * 25, by omega⟩ p + FloatOps.sitofp (F := Ideal) .f32 (BitVec.ofNat 32 (p.val % 16))) sixteen,
    Ideal.div (g ⟨c.val * 25 + 1, by omega⟩ p + FloatOps.sitofp (F := Ideal) .f32 (BitVec.ofNat 32 (p.val / 16))) sixteen,
    Ideal.exp (g ⟨c.val * 25 + 2, by omega⟩ p) * Ideal.div (Ideal.ofBits .f32 (anchorW c)) sixteen,
    Ideal.exp (g ⟨c.val * 25 + 3, by omega⟩ p) * Ideal.div (Ideal.ofBits .f32 (anchorH c)) sixteen,
    FloatOps.sitofp (F := Ideal) .f32 (BitVec.ofNat 32 (bestClass g c p).val),
    classes g c p (bestClass g c p)]

/-- The least extended real, as its word. -/
theorem bot_word : Ideal.ofBits .f32 0xFF800000#32 = ⊥ := by
  simp [Ideal.ofBits, Ideal.ieee]

/-- The fold of the maximum is the score of the first greatest class. -/
theorem fold_max_eq {n : Nat} (h0 : 0 < n) (key : Fin n → EReal) :
    Finset.univ.fold max (Ideal.ofBits .f32 0xFF800000#32) key = key (place key ⟨0, h0⟩) := by
  refine le_antisymm ((Finset.fold_max_le _).2 ⟨by rw [bot_word]; exact bot_le, fun k _ => (place_first key h0 k).1⟩) ?_
  exact (Finset.le_fold_max _).2 (.inr ⟨_, Finset.mem_univ _, le_refl _⟩)

/-- The lesser of two words. -/
theorem minsi_eq (x y : BitVec 32) : IntOp.minsi x y = if x.toInt ≤ y.toInt then x else y := by
  unfold IntOp.minsi
  rw [BitVec.slt_eq_decide]
  simp only [decide_eq_true_eq]
  rcases lt_trichotomy x.toInt y.toInt with h | h | h
  · rw [if_pos h, if_pos (le_of_lt h)]
  · rw [if_neg (by omega), if_pos (le_of_eq h), BitVec.eq_of_toInt_eq h]
  · rw [if_neg (by omega), if_neg (by omega)]

/-- The fold of the minimum of words is the least one. -/
theorem fold_minsi_eq {n : Nat} (f : Fin n → BitVec 32) (init : BitVec 32) (q : Fin n) (hi : (f q).toInt ≤ init.toInt) (hf : ∀ k, (f q).toInt ≤ (f k).toInt) :
    Finset.univ.fold IntOp.minsi init f = f q := by
  have key : ∀ s : Finset (Fin n), (f q).toInt ≤ (s.fold IntOp.minsi init f).toInt ∧ (q ∈ s → s.fold IntOp.minsi init f = f q) := by
    intro s
    induction s using Finset.induction_on with
    | empty => exact ⟨by rw [Finset.fold_empty]; exact hi, fun h => absurd h (Finset.notMem_empty _)⟩
    | insert k s hk ih =>
      rw [Finset.fold_insert hk, minsi_eq]
      constructor
      · split
        · exact hf k
        · exact ih.1
      · intro hq
        rcases Finset.mem_insert.1 hq with rfl | hq
        · rw [if_pos ih.1]
        · rw [ih.2 hq]
          split
          · exact BitVec.eq_of_toInt_eq (le_antisymm (by assumption) (hf k))
          · rfl
  exact (key Finset.univ).2 (Finset.mem_univ q)

/-- A small word's number. -/
theorem toInt_small (k : Nat) (h : k < 32) : (BitVec.ofNat 32 k).toInt = k := by
  rw [BitVec.toInt_eq_toNat_of_lt (by simp only [BitVec.toNat_ofNat]; omega)]
  simp only [BitVec.toNat_ofNat]
  omega

/-- The least position of the greatest key is the first place's. -/
theorem fold_first_eq (key : Fin 20 → EReal) :
    Finset.univ.fold IntOp.minsi 2147483647#32 (fun k => if key k = Finset.univ.fold max (Ideal.ofBits .f32 0xFF800000#32) key then BitVec.ofNat 32 k.val else 21#32)
      = BitVec.ofNat 32 (place key ⟨0, by decide⟩).val := by
  rw [fold_max_eq (by decide) key]
  have hp : (if key (place key ⟨0, by decide⟩) = key (place key ⟨0, by decide⟩) then BitVec.ofNat 32 (place key ⟨0, by decide⟩).val else 21#32)
      = BitVec.ofNat 32 (place key ⟨0, by decide⟩).val := if_pos rfl
  have hlt := (place key ⟨0, by decide⟩).isLt
  refine (fold_minsi_eq _ _ (place key ⟨0, by decide⟩) ?_ fun k => ?_).trans hp
  · rw [hp, toInt_small _ (by omega)]
    have : (2147483647#32 : BitVec 32).toInt = 2147483647 := by decide
    rw [this]
    omega
  · rw [hp, toInt_small _ (by omega)]
    by_cases h : key k = key (place key ⟨0, by decide⟩)
    · rw [if_pos h, toInt_small _ (by omega)]
      by_contra hn
      have := (place_first key (by decide) k).2 (Fin.lt_def.2 (by omega))
      rw [h] at this
      exact lt_irrefl _ this
    · rw [if_neg h]
      have : (21#32 : BitVec 32).toInt = 21 := by decide
      rw [this]
      omega

end Cert.Boxes

end

end
-- ==== Proof.KerDecode.lean ====
module

public import proofs.«01_k».proof.Proof.Sorted
public import proofs.«01_k».proof.Proof.Decode

@[expose] public section

set_option maxRecDepth 16384

noncomputable section

/-!
# The kernel's table before sorting

Its columns are the decoded boxes of the batch.
-/

namespace Cert.KernelIdeal.Hand

open Idealize.ShloMosaic Cert.Boxes
open Cert.KernelIdeal Cert.KernelIdeal.Gen

/-- Five rows of cells, one after the other, read. -/
theorem cat5_at (f0 f1 f2 f3 f4 : FVec Ideal S1x256 .f32) (G : Fin 5 → Fin 256 → EReal) (h0 : ∀ p, f0 (ix2 0 p) = G 0 p) (h1 : ∀ p, f1 (ix2 0 p) = G 1 p)
    (h2 : ∀ p, f2 (ix2 0 p) = G 2 p) (h3 : ∀ p, f3 (ix2 0 p) = G 3 p) (h4 : ∀ p, f4 (ix2 0 p) = G 4 p) (n : Fin 1280) :
    cat5 f0 f1 f2 f3 f4 (ix2 0 n) = G ⟨n.val / 256, by omega⟩ ⟨n.val % 256, by omega⟩ := by
  have hG : ∀ (c : Fin 5) (p : Fin 256), c.val * 256 + p.val = n.val → G c p = G ⟨n.val / 256, by omega⟩ ⟨n.val % 256, by omega⟩ := fun c p h => by
    congr 1
    · exact Fin.ext (by show c.val = n.val / 256; omega)
    · exact Fin.ext (by show p.val = n.val % 256; omega)
  pointwise [cat5]
  split_ifs
  all_goals first
    | exact absurd rfl ‹¬_›
    | (refine (h0 _).trans (hG 0 _ ?_); show 0 * 256 + n.val = n.val; omega)
    | (refine (h1 _).trans (hG 1 _ ?_); show 1 * 256 + (n.val - 256) = n.val; omega)
    | (refine (h2 _).trans (hG 2 _ ?_); show 2 * 256 + (n.val - 256 - 256) = n.val; omega)
    | (refine (h3 _).trans (hG 3 _ ?_); show 3 * 256 + (n.val - 256 - 256 - 256) = n.val; omega)
    | (refine (h4 _).trans (hG 4 _ ?_); show 4 * 256 + (n.val - 256 - 256 - 256 - 256) = n.val; omega)

/-- A cell's column. -/
theorem cellX_at (p : Fin 256) : (cxOf (F := Ideal)) (ix2 0 p) = FloatOps.sitofp (F := Ideal) .f32 (BitVec.ofNat 32 (p.val % 16)) := by
  pointwise [cxOf]
  refine congrArg (FloatOps.sitofp (F := Ideal) .f32) ?_
  revert p
  decide +kernel

/-- A cell's row. -/
theorem cellY_at (p : Fin 256) : (cyOf (F := Ideal)) (ix2 0 p) = FloatOps.sitofp (F := Ideal) .f32 (BitVec.ofNat 32 (p.val / 16)) := by
  pointwise [cyOf]
  refine congrArg (FloatOps.sitofp (F := Ideal) .f32) ?_
  revert p
  decide +kernel

variable (x : FVec Ideal S125x256 .f32)

/-- The input's channels over the cells. -/
def chans : Fin 125 → Fin 256 → EReal := fun q p => x (ix2 q p)

/-- A channel. -/
theorem row_at (r : Nat) (h : r < 125) (p : Fin 256) : rowOf x r h (ix2 0 p) = chans x ⟨r, h⟩ p := by
  pointwise [rowOf]
  rfl

/-- A centre's coordinate. -/
theorem ctr_at (r : Nat) (h : r < 125) (c : FVec Ideal S1x256 .f32) (p : Fin 256) : ctrOf x r h c (ix2 0 p) = Ideal.div (chans x ⟨r, h⟩ p + c (ix2 0 p)) sixteen := by
  pointwise [ctrOf, rowOf]
  rfl

/-- An extent. -/
theorem ext_at (r : Nat) (h : r < 125) (l : BitVec 32) (p : Fin 256) : extOf x r h l (ix2 0 p) = Ideal.exp (chans x ⟨r, h⟩ p) * Ideal.ofBits .f32 l := by
  pointwise [extOf, rowOf]
  rfl

/-- The greatest class's score. -/
theorem prob_at (c : Fin 5) (h : c.val * 25 + 5 + 20 ≤ 125) (p : Fin 256) : probOf x (c.val * 25 + 5) h (ix2 0 p) = decoded (chans x) c p 6 := by
  have e : probOf x (c.val * 25 + 5) h (ix2 0 p) = Finset.univ.fold max (Ideal.ofBits .f32 0xFF800000#32) (classes (chans x) c p) := by
    pointwise [probOf, clsOf]
    unfold classes chans
    simp only [Nat.add_assoc]
  rw [e, fold_max_eq (by decide)]
  rfl

/-- The greatest class. -/
theorem idx_at (c : Fin 5) (h : c.val * 25 + 5 + 20 ≤ 125) (p : Fin 256) : idxOf x (c.val * 25 + 5) h (ix2 0 p) = decoded (chans x) c p 5 := by
  have e : idxOf x (c.val * 25 + 5) h (ix2 0 p) = FloatOps.sitofp (F := Ideal) .f32 (Finset.univ.fold IntOp.minsi 2147483647#32
      (fun k : Fin 20 => if classes (chans x) c p k = Finset.univ.fold max (Ideal.ofBits .f32 0xFF800000#32) (classes (chans x) c p) then BitVec.ofNat 32 k.val else 21#32)) := by
    pointwise [idxOf, probOf, clsOf]
    unfold classes chans
    simp only [Nat.add_assoc]
  rw [e, fold_first_eq]
  rfl

/-- Sixteen. -/
theorem sixteen_eq : sixteen = ((16 : ℝ) : EReal) := by
  simp [sixteen, Ideal.ofBits, Ideal.ieee]
  rw [← EReal.coe_mul]
  norm_num

/-- Division by sixteen. -/
theorem div_sixteen (x : EReal) : Ideal.div x sixteen = x * ((1 / 16 : ℝ) : EReal) := by
  unfold Ideal.div
  rw [if_neg (by rw [sixteen_eq]; exact_mod_cast (by norm_num : (16 : ℝ) ≠ 0)), sixteen_eq, ← EReal.coe_inv]
  norm_num

/-- The kernel's widths are the anchors' over sixteen. -/
theorem anchorW_eq (c : Fin 5) : Ideal.div (Ideal.ofBits .f32 (anchorW c)) sixteen
    = Ideal.ofBits .f32 ((![0x3DA93A93#32, 0x3E4C5604#32, 0x3EA1C9B0#32, 0x3F1789B5#32, 0x3F33C84B#32] : Fin 5 → BitVec 32) c) := by
  rw [div_sixteen]
  unfold anchorW
  fin_cases c <;> simp [Ideal.ofBits, Ideal.ieee] <;> simp only [← EReal.coe_mul] <;> norm_num

/-- The kernel's heights are the anchors' over sixteen. -/
theorem anchorH_eq (c : Fin 5) : Ideal.div (Ideal.ofBits .f32 (anchorH c)) sixteen
    = Ideal.ofBits .f32 ((![0x3DDDA027#32, 0x3E804D55#32, 0x3F01952D#32, 0x3E9AE59F#32, 0x3F201D15#32] : Fin 5 → BitVec 32) c) := by
  rw [div_sixteen]
  unfold anchorH
  fin_cases c <;> simp [Ideal.ofBits, Ideal.ieee] <;> simp only [← EReal.coe_mul] <;> norm_num

/-- A column of the table. -/
theorem det_at (n : Fin 1280) (r : Fin 7) : detOf x (ix2 r.castSucc n) = decoded (chans x) ⟨n.val / 256, by omega⟩ ⟨n.val % 256, by omega⟩ r := by
  have h0 : objOf x (ix2 0 n) = decoded (chans x) ⟨n.val / 256, by omega⟩ ⟨n.val % 256, by omega⟩ 0 :=
    cat5_at _ _ _ _ _ (fun c p => decoded (chans x) c p 0) (row_at x _ _) (row_at x _ _) (row_at x _ _) (row_at x _ _) (row_at x _ _) n
  have hx : ∀ (c : Fin 5) (h : c.val * 25 < 125) (p : Fin 256), ctrOf x (c.val * 25) h cxOf (ix2 0 p) = decoded (chans x) c p 1 := fun c h p => by
    rw [ctr_at, cellX_at]
    rfl
  have hy : ∀ (c : Fin 5) (h : c.val * 25 + 1 < 125) (p : Fin 256), ctrOf x (c.val * 25 + 1) h cyOf (ix2 0 p) = decoded (chans x) c p 2 := fun c h p => by
    rw [ctr_at, cellY_at]
    rfl
  have hw : ∀ (c : Fin 5) (h : c.val * 25 + 2 < 125) (p : Fin 256), extOf x (c.val * 25 + 2) h _ (ix2 0 p) = decoded (chans x) c p 3 := fun c h p => by
    rw [ext_at, ← anchorW_eq]
    rfl
  have hh : ∀ (c : Fin 5) (h : c.val * 25 + 3 < 125) (p : Fin 256), extOf x (c.val * 25 + 3) h _ (ix2 0 p) = decoded (chans x) c p 4 := fun c h p => by
    rw [ext_at, ← anchorH_eq]
    rfl
  have h1 : bxOf x (ix2 0 n) = decoded (chans x) ⟨n.val / 256, by omega⟩ ⟨n.val % 256, by omega⟩ 1 :=
    cat5_at _ _ _ _ _ (fun c p => decoded (chans x) c p 1) (hx 0 (by decide)) (hx 1 (by decide)) (hx 2 (by decide)) (hx 3 (by decide)) (hx 4 (by decide)) n
  have h2 : byOf x (ix2 0 n) = decoded (chans x) ⟨n.val / 256, by omega⟩ ⟨n.val % 256, by omega⟩ 2 :=
    cat5_at _ _ _ _ _ (fun c p => decoded (chans x) c p 2) (hy 0 (by decide)) (hy 1 (by decide)) (hy 2 (by decide)) (hy 3 (by decide)) (hy 4 (by decide)) n
  have h3 : bwOf x (ix2 0 n) = decoded (chans x) ⟨n.val / 256, by omega⟩ ⟨n.val % 256, by omega⟩ 3 :=
    cat5_at _ _ _ _ _ (fun c p => decoded (chans x) c p 3) (hw 0 (by decide)) (hw 1 (by decide)) (hw 2 (by decide)) (hw 3 (by decide)) (hw 4 (by decide)) n
  have h4 : bhOf x (ix2 0 n) = decoded (chans x) ⟨n.val / 256, by omega⟩ ⟨n.val % 256, by omega⟩ 4 :=
    cat5_at _ _ _ _ _ (fun c p => decoded (chans x) c p 4) (hh 0 (by decide)) (hh 1 (by decide)) (hh 2 (by decide)) (hh 3 (by decide)) (hh 4 (by decide)) n
  have h5 : clsIdxOf x (ix2 0 n) = decoded (chans x) ⟨n.val / 256, by omega⟩ ⟨n.val % 256, by omega⟩ 5 :=
    cat5_at _ _ _ _ _ (fun c p => decoded (chans x) c p 5) (idx_at x 0 (by decide)) (idx_at x 1 (by decide)) (idx_at x 2 (by decide)) (idx_at x 3 (by decide)) (idx_at x 4 (by decide)) n
  have h6 : clsProbOf x (ix2 0 n) = decoded (chans x) ⟨n.val / 256, by omega⟩ ⟨n.val % 256, by omega⟩ 6 :=
    cat5_at _ _ _ _ _ (fun c p => decoded (chans x) c p 6) (prob_at x 0 (by decide)) (prob_at x 1 (by decide)) (prob_at x 2 (by decide)) (prob_at x 3 (by decide)) (prob_at x 4 (by decide)) n
  have e : detOf x (ix2 r.castSucc n) = ![objOf x (ix2 0 n), bxOf x (ix2 0 n), byOf x (ix2 0 n), bwOf x (ix2 0 n), bhOf x (ix2 0 n), clsIdxOf x (ix2 0 n), clsProbOf x (ix2 0 n)] r := by
    pointwise [detOf]
    fin_cases r <;> rfl
  rw [e, h0, h1, h2, h3, h4, h5, h6]
  fin_cases r <;> rfl

end Cert.KernelIdeal.Hand

end

end
-- ==== Proof.RefRun.lean ====
module

public import proofs.«01_k».proof.Proof.Gen.ReferenceIdeal.Run
public import proofs.«01_k».proof.Proof.Gen.ReferenceIdeal.Step
public import Idealize.ShloMosaic.Lib.Claim
public import proofs.«01_k».proof.Defs

@[expose] public section

set_option maxRecDepth 65536

/-!
# The reference's run

The reference runs one loop of 1280 trips over the sorted detections.  Its run ends with the loop's state after 1280 steps, as the
named bindings of one trip give them, from the sorted table the operations before the loop leave.
-/

noncomputable section

namespace Cert.ReferenceIdeal.Hand

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V : Valuation τ sig (Elt F)) (s : State F) (j : ℕ)

/-- The buffers carried round the loop hold the state, and the trip's number. -/
structure Carries : Prop where
  table : V (Proc.devRef .tc main_v91_3) = s.main_v91_3
  counter : V (Proc.devRef .tc main_v91_1) = constantI S_ 32 (BitVec.ofNat 32 j)
  trip : V (Proc.devRef .tc main_v91_2) = constantI S_ 32 (BitVec.ofNat 32 j)
  lanes : V (Proc.devRef .tc main_v91_0) = Step.K_main_v90 (F := F)

variable {V s j}

/-- The row taken out. -/
theorem row_eq (h : Carries V s j) : res_main_while0b_v97 V = Step.b10 j s := by
  unfold res_main_while0b_v97
  rw [h.table, h.trip]
  rfl

/-- Its box. -/
theorem rowBox_eq (h : Carries V s j) : res_main_while0b_v100 V = Step.b13 j s := by
  unfold res_main_while0b_v100
  rw [row_eq h]
  rfl

/-- Every box. -/
theorem boxes_eq (h : Carries V s j) : res_main_while0b_v101 V = Step.b14 j s := by
  unfold res_main_while0b_v101
  rw [h.table]
  rfl

/-- The centre across of the row taken out. -/
theorem rowX_eq (h : Carries V s j) : res_main_while0b_v103 V = Step.b16 j s := by
  unfold res_main_while0b_v103
  rw [rowBox_eq h]
  rfl

/-- Its centre down. -/
theorem rowY_eq (h : Carries V s j) : res_main_while0b_v105 V = Step.b18 j s := by
  unfold res_main_while0b_v105
  rw [rowBox_eq h]
  rfl

/-- Its width. -/
theorem rowW_eq (h : Carries V s j) : res_main_while0b_v107 V = Step.b20 j s := by
  unfold res_main_while0b_v107
  rw [rowBox_eq h]
  rfl

/-- Its height. -/
theorem rowH_eq (h : Carries V s j) : res_main_while0b_v109 V = Step.b22 j s := by
  unfold res_main_while0b_v109
  rw [rowBox_eq h]
  rfl

/-- The centre across of every box. -/
theorem boxX_eq (h : Carries V s j) : res_main_while0b_v123 V = Step.b40 j s := by
  unfold res_main_while0b_v123
  rw [boxes_eq h]
  rfl

/-- The centre down of every box. -/
theorem boxY_eq (h : Carries V s j) : res_main_while0b_v125 V = Step.b42 j s := by
  unfold res_main_while0b_v125
  rw [boxes_eq h]
  rfl

/-- The width of every box. -/
theorem boxW_eq (h : Carries V s j) : res_main_while0b_v127 V = Step.b44 j s := by
  unfold res_main_while0b_v127
  rw [boxes_eq h]
  rfl

/-- The height of every box. -/
theorem boxH_eq (h : Carries V s j) : res_main_while0b_v129 V = Step.b46 j s := by
  unfold res_main_while0b_v129
  rw [boxes_eq h]
  rfl

/-- The areas shared with the row taken out. -/
theorem shared_eq (h : Carries V s j) : res_main_while0b_v164 V = Step.b87 j s := by
  unfold res_main_while0b_v164
  simp only [rowX_eq h, rowY_eq h, rowW_eq h, rowH_eq h, boxX_eq h, boxY_eq h, boxW_eq h, boxH_eq h]
  rfl

set_option maxHeartbeats 2000000 in
/-- What one trip leaves of the table. -/
theorem table_step (h : Carries V s j) : step_main_v91_3 V = (step j s).main_v91_3 := by
  refine congrArg₂ (fun a b => concatenate S2x1280x7 2 [⟨S2x1280x1, a⟩, ⟨S2x1280x6, b⟩]
    concatenates_S2x1280x1_S2x1280x6_S2x1280x7_d2) ?_ ?_
  · simp only [row_eq h, rowBox_eq h, boxes_eq h, shared_eq h, h.table, h.trip, h.lanes]
    rfl
  · rw [h.table]
    rfl

/-- The number one trip on. -/
theorem number_step (n : ℕ) : addi (constantI S_ 32 (BitVec.ofNat 32 n)) (constantI S_ 32 1#32) = constantI S_ 32 (BitVec.ofNat 32 (n + 1)) := by
  funext i
  show BitVec.ofNat 32 n + 1#32 = BitVec.ofNat 32 (n + 1)
  simp only [BitVec.ofNat_add]

/-- A trip takes the state to the next. -/
theorem carries_step (h : Carries V s j) : Carries (STEP V) (step j s) (j + 1) where
  table := (STEP_main_v91_3 V).trans (table_step h)
  counter := (STEP_main_v91_1 V).trans (by unfold step_main_v91_1; rw [h.counter]; exact number_step j)
  trip := (STEP_main_v91_2 V).trans (by unfold step_main_v91_2; rw [h.trip]; exact number_step j)
  lanes := (STEP_main_v91_0 V).trans h.lanes

/-! ## Before the loop -/

variable (V)

set_option maxHeartbeats 4000000 in
/-- The first operations leave the table of detections. -/
theorem first_table : after hostOps0 V (Proc.devRef .tc main_v78) = Step.A_main_v78 (V (Proc.devRef .tc main_arg0)) := by
  after_reads_simp
  rfl

set_option maxHeartbeats 4000000 in
/-- And the negated scores. -/
theorem first_keys : after hostOps0 V (Proc.devRef .tc main_v81) = Step.A_main_v81 (V (Proc.devRef .tc main_arg0)) := by
  after_reads_simp
  rfl

/-- The sort leaves the order. -/
theorem sort_order : after hostOps0_1 V (Proc.devRef .tc main_v82)
    = (Host.sort2 S2x1280 1 comparator_f32_i32_d1 (V (Proc.devRef .tc main_v81)) (Step.K_main_call0_v0 (F := F))).2 := by
  after_reads_simp
  rfl

/-- The sort leaves the table alone. -/
theorem sort_table : after hostOps0_1 V (Proc.devRef .tc main_v78) = V (Proc.devRef .tc main_v78) := by
  after_reads_simp

/-- The last operations before the loop leave the rows in that order. -/
theorem last_table (a : (⟨S2x125x16x16, .f32⟩ : BufTy).Contents (Elt F)) (h : V (Proc.devRef .tc main_v78) = Step.A_main_v78 a)
    (h' : V (Proc.devRef .tc main_v82) = Step.A_main_v82 a) :
    after hostOps0_2 V (Proc.devRef .tc main_v91_3) = (init a).main_v91_3 := by
  after_reads_simp
  rw [h, h']
  rfl

/-- And the first trip's number, and the lanes' numbers. -/
theorem last_numbers : after hostOps0_2 V (Proc.devRef .tc main_v91_1) = constantI S_ 32 (BitVec.ofNat 32 0)
    ∧ after hostOps0_2 V (Proc.devRef .tc main_v91_2) = constantI S_ 32 (BitVec.ofNat 32 0)
    ∧ after hostOps0_2 V (Proc.devRef .tc main_v91_0) = Step.K_main_v90 (F := F) := by
  refine ⟨?_, ?_, ?_⟩ <;> (after_reads_simp; rfl)

variable (m : (ℓ : Loc nD τ sig) → Buf (Elt F) ℓ) (c : Dev nD)

/-- What the loop starts from. -/
theorem carries_entry : Carries (entryContents preI m c) (init (m ((c.tc : Thread nD τ).loc main_arg0))) 0 := by
  have e : entryContents preI m c = after hostOps0_2 (after hostOps0_1 (after hostOps0 (launchContents m c))) := rfl
  obtain ⟨h1, h2, h3⟩ := last_numbers (after hostOps0_1 (after hostOps0 (launchContents m c)))
  refine ⟨?_, by rw [e, h1], by rw [e, h2], by rw [e, h3]⟩
  rw [e]
  refine last_table _ _ ?_ ?_
  · rw [sort_table, first_table]
  · rw [sort_order, first_keys]
    rfl

/-- The table after so many trips. -/
def trips (a : (⟨S2x125x16x16, .f32⟩ : BufTy).Contents (Elt F)) : ℕ → State F
  | 0 => init a
  | n + 1 => step n (trips a n)

/-- Before every trip the carried buffers hold the state of so many trips. -/
theorem carries_trips : ∀ k, Carries (STEP^[k] (entryContents preI m c)) (trips (m ((c.tc : Thread nD τ).loc main_arg0)) k) k
  | 0 => carries_entry m c
  | k + 1 => by
    rw [Function.iterate_succ_apply']
    exact carries_step (carries_trips k)

/-- The reference's run ends with the table after 1280 trips, its argument unchanged. -/
theorem run_trips (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v91_3) = (trips (m ((c.tc : Thread nD τ).loc main_arg0)) 1280).main_v91_3
      ∧ r.2.mem ((c.tc : Thread nD τ).loc main_arg0) = m ((c.tc : Thread nD τ).loc main_arg0) :=
  (θ_run defs _ _).mono (fun _ h c => ⟨(h c).1.trans (carries_trips m c 1280).table, (h c).2⟩) (Value.run m ρ)

/-- The reference ends, its argument unchanged; it declares no semaphore. -/
theorem frame_reference : Cert.quiescent_ReferenceIdeal (hReferenceIdeal := Cert.ReferenceIdeal.Gen.facts) := fun m ρ _ =>
  (θ_run defs _ _).mono (fun r h => ⟨fun c => (h c).2, sem_eq_zero_of_no_sems (by decide) r.2⟩) (run_trips (F := Ideal) m ρ)

end Cert.ReferenceIdeal.Hand

end

end
-- ==== Proof.RefSort.lean ====
module

public import proofs.«01_k».proof.Proof.RefRun
public import proofs.«01_k».proof.Proof.Order
public import Idealize.ShloMosaic.Lib.Pointwise
public import Idealize.ShloMosaic.Lib.IdealHost
public import Idealize.ShloMosaic.Lib.WordCmp

@[expose] public section

set_option maxRecDepth 16384

noncomputable section

/-!
# The reference's sorted table

The reference sorts the positions of a batch by the negated scores and takes the boxes in that order.
-/

namespace Cert.ReferenceIdeal.Hand

open Idealize.ShloMosaic Cert.Boxes
open Cert.ReferenceIdeal Cert.ReferenceIdeal.Gen Cert.ReferenceIdeal.Step

/-- Over the extended reals the comparator compares the keys. -/
theorem comparator_eq (l r : Ideal .f32 × BitVec 32) : comparator_f32_i32_d1 l r = BitVec.ofBool (decide ((l.1 : EReal) < r.1)) := by
  have e : ∀ a : EReal, (Scalar.select (BitVec.ofBool (decide (a ≠ a))) (Ideal.ofBits .f32 0x7FC00000#32)
      (Scalar.select (BitVec.ofBool (decide (a = Ideal.ofBits .f32 0x00000000#32))) (Ideal.ofBits .f32 0x00000000#32) a) : EReal) = a := by
    intro a
    unfold Scalar.select
    rw [if_neg (by simp)]
    by_cases h : a = Ideal.ofBits .f32 0x00000000#32
    · rw [← h, if_pos (by simp)]
    · rw [decide_eq_false h, if_neg (by decide)]
  have hl := e l.1
  have hr := e r.1
  show BitVec.ofBool (decide ((Scalar.select (BitVec.ofBool (decide ((l.1 : EReal) ≠ l.1))) (Ideal.ofBits .f32 0x7FC00000#32)
      (Scalar.select (BitVec.ofBool (decide ((l.1 : EReal) = Ideal.ofBits .f32 0x00000000#32))) (Ideal.ofBits .f32 0x00000000#32) (l.1 : EReal)) : EReal)
      < Scalar.select (BitVec.ofBool (decide ((r.1 : EReal) ≠ r.1))) (Ideal.ofBits .f32 0x7FC00000#32)
      (Scalar.select (BitVec.ofBool (decide ((r.1 : EReal) = Ideal.ofBits .f32 0x00000000#32))) (Ideal.ofBits .f32 0x00000000#32) (r.1 : EReal)))) = _
  rw [hl, hr]

/-- A batch's scores before sorting. -/
def scores (x : (⟨S2x125x16x16, .f32⟩ : BufTy).Contents (Elt Ideal)) (b : Fin 2) : Fin 1280 → EReal := fun n => A_main_v78 x (ix3 b n 0)

/-- The sort's keys. -/
theorem keys_at (x : (⟨S2x125x16x16, .f32⟩ : BufTy).Contents (Elt Ideal)) (b : Fin 2) (n : Fin 1280) : A_main_v81 x (ix2 b n) = -scores x b n := by
  pointwise [A_main_v81, A_main_v80, A_main_v79]
  rfl

/-- The sorted positions. -/
theorem order_at (x : (⟨S2x125x16x16, .f32⟩ : BufTy).Contents (Elt Ideal)) (b : Fin 2) (m : Fin 1280) :
    A_main_v82 x (ix2 b m) = BitVec.ofNat 32 (place (scores x b) m).val := by
  rw [← sortedFrom_above]
  have hd : 1 < S2x1280.rank := by decide
  have ix : ∀ k : Fin 1280, Shape.Idx.along (s := S2x1280) (ix2 b m) ⟨1, hd⟩ k = ix2 b k := fun k => by
    funext a
    match a with
    | 0 => rfl
    | 1 => rfl
  have hK : ∀ k : Fin 1280, (K_main_call0_v0 (F := Ideal)) (ix2 b k) = BitVec.ofNat 32 k.val := fun k => rfl
  have hs : ∀ B : Fin 1280 → Fin 1280 → Bool, B = above (scores x b) →
      (K_main_call0_v0 (F := Ideal)) (Shape.Idx.along (s := S2x1280) (ix2 b m) ⟨1, hd⟩ (sortedFrom B m)) = BitVec.ofNat 32 (sortedFrom (above (scores x b)) m).val := by
    rintro B rfl
    exact (congrArg (K_main_call0_v0 (F := Ideal)) (ix _)).trans (hK _)
  unfold A_main_v82 Host.sort2
  rw [dif_pos hd]
  refine hs _ (funext fun (k : Fin 1280) => funext fun (k' : Fin 1280) => ?_)
  rw [comparator_eq]
  refine (congrArg₂ (fun u v : EReal => BitVec.ofBool (decide (u < v)) == 1#1) ((congrArg (A_main_v81 x) (ix k)).trans (keys_at x b k))
    ((congrArg (A_main_v81 x) (ix k')).trans (keys_at x b k'))).trans ?_
  unfold above
  simp only [EReal.neg_lt_neg_iff]
  by_cases h : scores x b k' < scores x b k <;> simp [h]

/-- A position's word. -/
theorem place_word : ∀ n : Fin 1280, Scalar.select (IntOp.cmpi .slt (BitVec.ofNat 32 n.val) 0#32) (IntOp.addi (BitVec.ofNat 32 n.val) 1280#32) (BitVec.ofNat 32 n.val)
    = BitVec.ofNat 32 n.val := by
  decide +kernel

/-- The row index of the gather. -/
theorem index_at (x : (⟨S2x125x16x16, .f32⟩ : BufTy).Contents (Elt Ideal)) (b : Fin 2) (m : Fin 1280) :
    A_main_v88 x (ix3 b m 0) = BitVec.ofNat 32 (place (scores x b) m).val := by
  have e : A_main_v88 x (ix3 b m 0) = Scalar.select (IntOp.cmpi .slt (A_main_v82 x (ix2 b m)) 0#32) (IntOp.addi (A_main_v82 x (ix2 b m)) 1280#32) (A_main_v82 x (ix2 b m)) := by
    pointwise [A_main_v88, A_main_v87, A_main_v86, A_main_v84, K_main_v83, K_main_v85, K_main_c, K_main_c_14]
  rw [e, order_at, place_word]

/-- The sorted table. -/
theorem sorted_at (x : (⟨S2x125x16x16, .f32⟩ : BufTy).Contents (Elt Ideal)) (b : Fin 2) (m : Fin 1280) (r : Fin 7) :
    A_main_v89 x (ix3 b m r) = A_main_v78 x (ix3 b (place (scores x b) m) r) := by
  unfold A_main_v89 Host.gather
  congr 1
  refine funext fun a => Fin.ext ?_
  match a with
  | 0 =>
    show 0 + b.val + 0 = b.val
    omega
  | 1 =>
    show min ((A_main_v88 x (ix3 b m 0)).toInt.toNat) (1280 - 1) + 0 + 0 = (place (scores x b) m).val
    have hp := (place (scores x b) m).isLt
    rw [index_at, BitVec.toInt_eq_toNat_of_lt (by simp only [BitVec.toNat_ofNat]; omega)]
    simp only [BitVec.toNat_ofNat]
    omega
  | 2 =>
    show 0 + 0 + r.val = r.val
    omega

end Cert.ReferenceIdeal.Hand

end

end
-- ==== Proof.RefDecode.lean ====
module

public import proofs.«01_k».proof.Proof.RefSort
public import proofs.«01_k».proof.Proof.Decode

@[expose] public section

set_option maxRecDepth 16384

noncomputable section

/-!
# The reference's table before sorting

Its rows are the decoded boxes of the batch.
-/

namespace Cert.ReferenceIdeal.Hand

open Idealize.ShloMosaic Cert.Boxes
open Cert.ReferenceIdeal Cert.ReferenceIdeal.Gen Cert.ReferenceIdeal.Step

variable (x : (⟨S2x125x16x16, .f32⟩ : BufTy).Contents (Elt Ideal)) (b : Fin 2)

/-- A batch's channels over the cells. -/
def chans : Fin 125 → Fin 256 → EReal := fun q p => x (ix4 b q ⟨p.val / 16, by omega⟩ ⟨p.val % 16, by omega⟩)

/-- A box's anchor. -/
def anchorOf (m : Fin 1280) : Fin 5 := ⟨m.val / 256, by omega⟩

/-- A box's cell. -/
def cellOf (m : Fin 1280) : Fin 256 := ⟨m.val % 256, by omega⟩

/-- Reading the input through a box's number or through its anchor and cell. -/
theorem chan_at (m : Fin 1280) (q : Fin 125) (h1 : m.val / 16 % 16 < 16) (h2 : m.val % 16 < 16) :
    x (ix4 b q ⟨m.val / 16 % 16, h1⟩ ⟨m.val % 16, h2⟩) = chans x b q (cellOf m) := by
  unfold chans cellOf
  congr 2
  · exact Fin.ext (by show m.val / 16 % 16 = m.val % 256 / 16; omega)
  · exact Fin.ext (by show m.val % 16 = m.val % 256 % 16; omega)

/-- The score. -/
theorem obj_at (m : Fin 1280) : A_main_v69 x (ix2 b m) = decoded (chans x b) (anchorOf m) (cellOf m) 0 := by
  pointwise [A_main_v69, A_main_v3, A_main_v2, A_main_v0]
  exact chan_at x b m _ _ _

/-- The class's score. -/
theorem class_at (m : Fin 1280) (k : Fin 20) : A_main_v71 x (ix3 b m k) = classes (chans x b) (anchorOf m) (cellOf m) k := by
  pointwise [A_main_v71, A_main_v70, A_main_v4, A_main_v0]
  exact chan_at x b m _ _ _

/-- The greatest class's score. -/
theorem prob_at (m : Fin 1280) : A_main_v72 x (ix2 b m) = decoded (chans x b) (anchorOf m) (cellOf m) 6 := by
  have e : A_main_v72 x (ix2 b m) = Finset.univ.fold max (Ideal.ofBits .f32 0xFF800000#32) (fun k : Fin 20 => A_main_v71 x (ix3 b m k)) := by
    pointwise [A_main_v72, K_main_cst_13]
  rw [e, funext (class_at x b m), fold_max_eq (by decide)]
  rfl

/-- The position of the greatest of a box's classes. -/
theorem top_at (m : Fin 1280) (key : Fin 20 → EReal) (hk : ∀ k, A_main_v71 x (ix3 b m k) = key k) :
    A_main_indices x (ix3 b m 0) = BitVec.ofNat 32 (place key ⟨0, by decide⟩).val := by
  rw [← sortedFrom_above]
  have hd : 2 < S2x1280x20.rank := by decide
  have ix : ∀ k : Fin 20, Shape.Idx.along (s := S2x1280x20) (ix3 b m 0) ⟨2, hd⟩ k = ix3 b m k := fun k => by
    funext a
    match a with
    | 0 => rfl
    | 1 => rfl
    | 2 => rfl
  have hK : ∀ k : Fin 20, iotaInDim S2x1280x20 32 ⟨2, hd⟩ (ix3 b m k) = BitVec.ofNat 32 k.val := fun k => rfl
  have hs : ∀ B : Fin 20 → Fin 20 → Bool, B = above key →
      iotaInDim S2x1280x20 32 ⟨2, hd⟩ (Shape.Idx.along (s := S2x1280x20) (ix3 b m 0) ⟨2, hd⟩ (sortedFrom B ⟨0, (by decide : 0 < 20)⟩))
        = BitVec.ofNat 32 (sortedFrom (above key) ⟨0, by decide⟩).val := by
    rintro B rfl
    exact (congrArg (iotaInDim S2x1280x20 32 ⟨2, hd⟩) (ix _)).trans (hK _)
  unfold A_main_indices Host.topK Host.sort2 extractStridedSlice
  dsimp only
  simp only [dif_pos hd]
  generalize hj : (fun a : Fin S2x1280x20.rank => _) = j
  obtain rfl : j = ix3 b m 0 := by
    rw [← hj]
    funext a
    match a with
    | 0 => exact Fin.ext (Nat.zero_add _)
    | 1 => exact Fin.ext (Nat.zero_add _)
    | 2 => rfl
  refine hs _ (funext fun (k : Fin 20) => funext fun (k' : Fin 20) => ?_)
  refine (congrArg₂ (fun u v : EReal => BitVec.ofBool (decide (v < u)) == 1#1) ((congrArg (A_main_v71 x) (ix k)).trans (hk k))
    ((congrArg (A_main_v71 x) (ix k')).trans (hk k'))).trans ?_
  unfold above
  by_cases h : key k' < key k <;> simp [h]

/-- The greatest class. -/
theorem idx_at (m : Fin 1280) : A_main_v74 x (ix2 b m) = decoded (chans x b) (anchorOf m) (cellOf m) 5 := by
  have e : A_main_v74 x (ix2 b m) = FloatOps.sitofp (F := Ideal) .f32 (A_main_indices x (ix3 b m 0)) := by
    pointwise [A_main_v74, A_main_v73]
  rw [e, top_at x b m _ (class_at x b m)]
  rfl

/-- The centre's first coordinate. -/
theorem cx_at (c : Fin 5) (p : Fin 256) : A_main_v26 x (ix3 b c p) = decoded (chans x b) c p 1 := by
  pointwise [A_main_v26, A_main_v24, A_main_v20, A_main_v19, A_main_v18, A_main_v17, A_main_v1, A_main_v0, K_main_v25, K_main_v23, K_main_v22, K_main_v21, K_main_v10, K_main_v9, K_main_v8, K_main_v7, K_main_v6, K_main_v5, K_main_cst]
  rfl

/-- The centre's second coordinate. -/
theorem cy_at (c : Fin 5) (p : Fin 256) : A_main_v34 x (ix3 b c p) = decoded (chans x b) c p 2 := by
  pointwise [A_main_v34, A_main_v32, A_main_v28, A_main_v27, A_main_v18, A_main_v17, A_main_v1, A_main_v0, K_main_v33, K_main_v31, K_main_v30, K_main_v29, K_main_v16, K_main_v15, K_main_v14, K_main_v13, K_main_v12, K_main_v11, K_main_cst_0]
  rfl

/-- The width. -/
theorem w_at (c : Fin 5) (p : Fin 256) : A_main_v48 x (ix3 b c p) = decoded (chans x b) c p 3 := by
  pointwise [A_main_v48, A_main_v37, A_main_v36, A_main_v35, A_main_v18, A_main_v17, A_main_v1, A_main_v0, K_main_v47, K_main_v46, K_main_v45, K_main_v44, K_main_v43, K_main_cst_6, K_main_v38, K_main_v39, K_main_v40, K_main_v41, K_main_v42, K_main_cst_1, K_main_cst_2, K_main_cst_3, K_main_cst_4, K_main_cst_5]
  fin_cases c <;> rfl

/-- The height. -/
theorem h_at (c : Fin 5) (p : Fin 256) : A_main_v62 x (ix3 b c p) = decoded (chans x b) c p 4 := by
  pointwise [A_main_v62, A_main_v51, A_main_v50, A_main_v49, A_main_v18, A_main_v17, A_main_v1, A_main_v0, K_main_v61, K_main_v60, K_main_v59, K_main_v58, K_main_v57, K_main_cst_12, K_main_v52, K_main_v53, K_main_v54, K_main_v55, K_main_v56, K_main_cst_7, K_main_cst_8, K_main_cst_9, K_main_cst_10, K_main_cst_11]
  fin_cases c <;> rfl

/-- Seven numbers joined as one, four, one and one, read at a place. -/
theorem ladder_eq {α : Type} (r : Fin 7) (a0 a1 a2 a3 a4 a5 a6 : α) :
    (if _ : r.val < 1 then a0 else if _ : r.val - 1 < 4 then
        if _ : r.val - 1 < 1 then a1 else if _ : r.val - 1 - 1 < 1 then a2 else if _ : r.val - 1 - 1 - 1 < 1 then a3 else a4
      else if _ : r.val - 1 - 4 < 1 then a5 else a6) = ![a0, a1, a2, a3, a4, a5, a6] r := by
  fin_cases r <;> rfl

/-- A row of the table. -/
theorem det_at (m : Fin 1280) (r : Fin 7) : A_main_v78 x (ix3 b m r) = decoded (chans x b) (anchorOf m) (cellOf m) r := by
  have hm := obj_at x b m
  have h1 := cx_at x b (anchorOf m) (cellOf m)
  have h2 := cy_at x b (anchorOf m) (cellOf m)
  have h3 := w_at x b (anchorOf m) (cellOf m)
  have h4 := h_at x b (anchorOf m) (cellOf m)
  have h5 := idx_at x b m
  have h6 := prob_at x b m
  have e : A_main_v78 x (ix3 b m r) = ![A_main_v69 x (ix2 b m), A_main_v26 x (ix3 b (anchorOf m) (cellOf m)), A_main_v34 x (ix3 b (anchorOf m) (cellOf m)),
      A_main_v48 x (ix3 b (anchorOf m) (cellOf m)), A_main_v62 x (ix3 b (anchorOf m) (cellOf m)), A_main_v74 x (ix2 b m), A_main_v72 x (ix2 b m)] r := by
    pointwise [A_main_v78, A_main_v75, A_main_v68, A_main_v76, A_main_v77, A_main_v67, A_main_v63, A_main_v64, A_main_v65, A_main_v66]
    exact ladder_eq (α := Elt Ideal .f32) r (A_main_v69 x (ix2 b m)) (A_main_v26 x (ix3 b (anchorOf m) (cellOf m))) (A_main_v34 x (ix3 b (anchorOf m) (cellOf m)))
      (A_main_v48 x (ix3 b (anchorOf m) (cellOf m))) (A_main_v62 x (ix3 b (anchorOf m) (cellOf m))) (A_main_v74 x (ix2 b m)) (A_main_v72 x (ix2 b m))
  rw [e, hm, h1, h2, h3, h4, h5, h6]
  fin_cases r <;> rfl

end Cert.ReferenceIdeal.Hand

end

end
-- ==== Proof.RefLoop.lean ====
module

public import proofs.«01_k».proof.Proof.RefRun
public import proofs.«01_k».proof.Proof.Spec
public import Idealize.ShloMosaic.Lib.Pointwise
public import Idealize.ShloMosaic.Lib.IdealHost
public import Idealize.ShloMosaic.Lib.WordCmp

@[expose] public section

set_option maxRecDepth 16384

noncomputable section

/-!
# The reference's loop is greedy suppression

A trip multiplies the scores of the boxes that its own box hits by zero, if its own box still has a positive score.
-/

namespace Cert.ReferenceIdeal.Hand

open Idealize.ShloMosaic Cert.Boxes
open Cert.ReferenceIdeal Cert.ReferenceIdeal.Gen Cert.ReferenceIdeal.Step

/-- The words of a trip's number. -/
theorem trip_word : ∀ n : Fin 1280, Scalar.select (IntOp.cmpi .slt (BitVec.ofNat 32 n.val) 0#32) (IntOp.addi (BitVec.ofNat 32 n.val) 1280#32) (BitVec.ofNat 32 n.val)
    = BitVec.ofNat 32 n.val := by
  decide +kernel

/-- The row a trip takes is its box's. -/
theorem row_at (n : Nat) (hn : n < 1280) (s : State Ideal) (b : Fin 2) (r : Fin 7) : b10 n s (ix3 b 0 r) = s.main_v91_3 (ix3 b ⟨n, hn⟩ r) := by
  have hw : (b7 n s) (Shape.Idx.first h_S_) = BitVec.ofNat 32 n := trip_word ⟨n, hn⟩
  have hi : (BitVec.ofNat 32 n).toInt = n := by
    rw [BitVec.toInt_eq_toNat_of_lt (by simp only [BitVec.toNat_ofNat]; omega)]
    simp only [BitVec.toNat_ofNat]
    omega
  have h0 : (0#32 : BitVec 32).toInt = 0 := by decide
  unfold b10 Host.dynamicSlice extractStridedSlice
  congr 1
  refine funext fun a => ?_
  match a with
  | 0 => exact Fin.ext (by show (min (max ((0#32 : BitVec 32).toInt) 0) ((2 - 2 : Nat) : Int)).toNat + b.val = b.val; rw [h0]; omega)
  | 1 => exact Fin.ext (by show (min (max ((b7 n s (Shape.Idx.first h_S_)).toInt) 0) ((1280 - 1 : Nat) : Int)).toNat + 0 = n; rw [hw, hi]; omega)
  | 2 => exact Fin.ext (by show (min (max ((0#32 : BitVec 32).toInt) 0) ((7 - 7 : Nat) : Int)).toNat + r.val = r.val; rw [h0]; omega)

/-- The boxes of one batch. -/
def boxes (V : (⟨S2x1280x7, .f32⟩ : BufTy).Contents (Elt Ideal)) (b : Fin 2) : Fin 1280 → Fin 7 → EReal := fun j r => V (ix3 b j r)

/-- Minus one half is the negative of one half. -/
theorem neg_half : Ideal.ofBits .f32 0xBF000000#32 = -half := by
  rw [half_eq]
  simp [Ideal.ofBits, Ideal.ieee]
  rw [← EReal.coe_mul]
  norm_num

/-- The lower edge of an interval, both ways. -/
theorem low_edge (c w : EReal) : c + w * -half = c - half * w := by
  rw [mul_neg, mul_comm, sub_eq_add_neg]

/-- The upper edge of an interval, both ways. -/
theorem high_edge (c w : EReal) : c + w * Ideal.ofBits .f32 0x3F000000#32 = c + half * w := by
  rw [mul_comm]
  rfl

/-- Cutting off: one below the threshold, zero from it on. -/
theorem cut_eq (x : EReal) : max (-Ideal.sign (x - thr)) 0 = ind (¬ thr ≤ x) := by
  obtain ⟨r, hr⟩ := thr_eq
  have hsub : 0 ≤ x - thr ↔ thr ≤ x := by
    rw [hr]
    exact EReal.sub_nonneg (.inr (EReal.coe_ne_top r)) (.inr (EReal.coe_ne_bot r))
  unfold ind
  by_cases h : thr ≤ x
  · rw [if_neg (not_not.2 h)]
    rcases eq_or_lt_of_le (hsub.2 h) with h0 | h0
    · rw [← h0, Ideal.sign_zero]
      simp
    · rw [Ideal.sign_of_pos h0]
      exact max_eq_right (by simp)
  · rw [if_pos h, Ideal.sign_of_neg (not_le.1 (fun h0 => h (hsub.1 h0)))]
    simp

/-- A trip's factor. -/
theorem factor_at (n : Nat) (hn : n < 1280) (s : State Ideal) (b : Fin 2) (m : Fin 1280) :
    b128 n s (ix2 b m) = ind (¬ hits (boxes s.main_v91_3 b) ⟨n, hn⟩ m) := by
  have e : b128 n s (ix2 b m) = Scalar.select (IntOp.andi (IntOp.cmpi .sgt (BitVec.ofNat 32 m.val) (BitVec.ofNat 32 n)) (BitVec.ofBool (decide (0 < b10 n s (ix3 b 0 0)))))
      (max (-Ideal.sign (overlap (fun r => b10 n s (ix3 b 0 r)) (boxes s.main_v91_3 b m) - thr)) 0) (1 : EReal) := by
    pointwise [b11, b12, b13, b14, b15, b16, b17, b18, b19, b20, b21, b22, b23, b24, b25, b26, b27, b28, b29, b30, b31, b32, b33, b34, b35, b36, b37, b38, b39, b40, b41, b42, b43, b44, b45, b46, b47, b48, b49, b50, b51, b52, b53, b54, b55, b56, b57, b58, b59, b60, b61, b62, b63, b64, b65, b66, b67, b68, b69, b70, b71, b72, b73, b74, b75, b76, b77, b78, b79, b80, b81, b82, b83, b84, b85, b86, b87, b88, b89, b90, b91, b92, b93, b94, b95, b96, b97, b98, b99, b100, b101, b102, b103, b104, b105, b106, b107, b108, b109, b110, b111, b112, b113, b114, b115, b116, b117, b118, b119, b120, b121, b122, b123, b124, b125, b126, b127, b128]
    simp only [neg_half, low_edge, high_edge]
    rfl
  have er : (fun r => b10 n s (ix3 b 0 r)) = boxes s.main_v91_3 b ⟨n, hn⟩ := funext fun r => row_at n hn s b r
  rw [e, er, row_at n hn, cut_eq, WordCmp.cmpi_sgt_eq, WordCmp.andi_ofBool]
  unfold Scalar.select hits
  have hc : BitVec.ofBool (decide ((BitVec.ofNat 32 n).toInt < (BitVec.ofNat 32 m.val).toInt) && decide (0 < s.main_v91_3 (ix3 b ⟨n, hn⟩ 0))) = 1
      ↔ n < m.val ∧ 0 < s.main_v91_3 (ix3 b ⟨n, hn⟩ 0) := by
    rw [WordCmp.ofBool_eq_one_iff']
    simp only [Bool.and_eq_true, decide_eq_true_eq]
    rw [BitVec.toInt_eq_toNat_of_lt (by simp only [BitVec.toNat_ofNat]; omega), BitVec.toInt_eq_toNat_of_lt (by simp only [BitVec.toNat_ofNat]; omega)]
    simp only [BitVec.toNat_ofNat]
    exact and_congr (by omega) Iff.rfl
  unfold ind
  by_cases h : n < m.val ∧ 0 < s.main_v91_3 (ix3 b ⟨n, hn⟩ 0)
  · rw [if_pos (hc.2 h)]
    by_cases ht : thr ≤ overlap (boxes s.main_v91_3 b ⟨n, hn⟩) (boxes s.main_v91_3 b m)
    · rw [if_neg (not_not.2 ht), if_neg (not_not.2 ⟨ht, h⟩)]
    · rw [if_pos ht, if_pos (fun h' => ht h'.1)]
  · rw [if_neg (mt hc.1 h), if_pos (fun h' => h h'.2)]

/-- A trip's table. -/
theorem step_at (n : Nat) (s : State Ideal) (b : Fin 2) (m : Fin 1280) (r : Fin 7) :
    (step n s).main_v91_3 (ix3 b m r) = if r = 0 then s.main_v91_3 (ix3 b m 0) * b128 n s (ix2 b m) else s.main_v91_3 (ix3 b m r) := by
  have e : (step n s).main_v91_3 (ix3 b m r) = if h : r.val < 1 then s.main_v91_3 (ix3 b m 0) * b128 n s (ix2 b m) else s.main_v91_3 (ix3 b m ⟨1 + (r.val - 1), by omega⟩) := by
    show b134 n s (ix3 b m r) = _
    pointwise [b134, b133, b132, b131, b130, b129]
  rw [e]
  by_cases h : r = 0
  · subst h
    rw [if_pos rfl, dif_pos (by decide)]
  · have hr : ¬ r.val < 1 := fun hr => h (Fin.ext (by show r.val = 0; omega))
    rw [if_neg h, dif_neg hr]
    congr 2
    exact Fin.ext (by show 1 + (r.val - 1) = r.val; omega)

open Classical in
/-- The table after `n` trips: the boxes hit by a kept one among the first `n` have score zero. -/
theorem trips_at (a : (⟨S2x125x16x16, .f32⟩ : BufTy).Contents (Elt Ideal)) (n : Nat) (hn : n ≤ 1280) (b : Fin 2) (m : Fin 1280) (r : Fin 7) :
    (trips a n).main_v91_3 (ix3 b m r) = if r = 0 ∧ killed (boxes (A_main_v89 a) b) n m then 0 else boxes (A_main_v89 a) b m r := by
  induction n generalizing m r with
  | zero =>
    rw [if_neg (fun h => not_killed_zero _ _ h.2)]
    rfl
  | succ n ih =>
    have ih' := ih (by omega)
    have hbox : ∀ (j : Fin 1280) (c : Fin 7), c ≠ 0 → (trips a n).main_v91_3 (ix3 b j c) = boxes (A_main_v89 a) b j c := fun j c hc => by
      rw [ih' j c, if_neg (fun h => hc h.1)]
    have hov : ∀ j, overlap (boxes (trips a n).main_v91_3 b ⟨n, by omega⟩) (boxes (trips a n).main_v91_3 b j) = overlap (boxes (A_main_v89 a) b ⟨n, by omega⟩) (boxes (A_main_v89 a) b j) := fun j => by
      unfold overlap common boxes
      simp only [hbox _ _ (by decide : (1 : Fin 7) ≠ 0), hbox _ _ (by decide : (2 : Fin 7) ≠ 0), hbox _ _ (by decide : (3 : Fin 7) ≠ 0), hbox _ _ (by decide : (4 : Fin 7) ≠ 0)]
      rfl
    have hpos : 0 < boxes (trips a n).main_v91_3 b ⟨n, by omega⟩ 0 ↔ alive (boxes (A_main_v89 a) b) ⟨n, by omega⟩ ∧ 0 < boxes (A_main_v89 a) b ⟨n, by omega⟩ 0 := by
      show 0 < (trips a n).main_v91_3 (ix3 b ⟨n, _⟩ 0) ↔ _
      rw [ih' _ 0, ← not_killed_iff _ n ⟨n, by omega⟩ (le_refl _)]
      by_cases hk : killed (boxes (A_main_v89 a) b) n ⟨n, by omega⟩
      · simp [hk]
      · simp [hk]
    have hhit : hits (boxes (trips a n).main_v91_3 b) ⟨n, by omega⟩ m ↔ alive (boxes (A_main_v89 a) b) ⟨n, by omega⟩ ∧ hits (boxes (A_main_v89 a) b) ⟨n, by omega⟩ m := by
      unfold hits
      rw [hov, hpos]
      tauto
    show (step n (trips a n)).main_v91_3 (ix3 b m r) = _
    rw [step_at, factor_at n (by omega), ih' m 0, ih' m r]
    by_cases h0 : r = 0
    · subst h0
      rw [if_pos rfl]
      simp only [true_and]
      rw [killed_succ _ n (by omega), ← hhit]
      unfold ind
      by_cases hk : killed (boxes (A_main_v89 a) b) n m
      · simp [hk]
      · by_cases hh : hits (boxes (trips a n).main_v91_3 b) ⟨n, by omega⟩ m
        · simp [hk, hh]
        · simp [hk, hh]
    · rw [if_neg h0, if_neg (fun h => h0 h.1), if_neg (fun h => h0 h.1)]

/-- The table after all trips. -/
theorem trips_last (a : (⟨S2x125x16x16, .f32⟩ : BufTy).Contents (Elt Ideal)) (b : Fin 2) (m : Fin 1280) (r : Fin 7) :
    (trips a 1280).main_v91_3 (ix3 b m r) = if r = 0 then left (boxes (A_main_v89 a) b) m else boxes (A_main_v89 a) b m r := by
  rw [trips_at a 1280 (le_refl _)]
  by_cases h : r = 0
  · subst h
    rw [if_pos rfl]
    unfold left
    rw [← not_killed_iff _ 1280 m (le_of_lt m.2)]
    by_cases hk : killed (boxes (A_main_v89 a) b) 1280 m
    · rw [if_pos ⟨rfl, hk⟩, if_neg (not_not.2 hk)]
    · rw [if_neg (fun h => hk h.2), if_pos hk]
  · rw [if_neg h, if_neg (fun h' => h h'.1)]

end Cert.ReferenceIdeal.Hand

end

end
-- ==== Proof.Value.lean ====
module

public import proofs.«01_k».proof.Proof.KernelValue
public import proofs.«01_k».proof.Proof.KerDecode
public import proofs.«01_k».proof.Proof.RefDecode
public import proofs.«01_k».proof.Proof.RefLoop

@[expose] public section

set_option maxRecDepth 16384

noncomputable section

/-!
# The two programs' values

Both sort the decoded boxes by their scores and sweep them; the kernel's padding row is dropped and its table transposed.
-/

namespace Cert.Values

open Idealize.ShloMosaic Idealize.ShloMosaic.TcCoe Idealize.SL.Sem Cert.Boxes

/-- The argument's type. -/
abbrev Arg := (⟨Cert.KernelIdeal.S2x125x16x16, .f32⟩ : BufTy).Contents (Elt Ideal)

variable (a : Arg) (b : Fin 2)

/-- The two programs read the same channels. -/
theorem chans_eq : Cert.KernelIdeal.Hand.chans (Cert.KernelIdeal.Hand.inOf (Cert.KernelIdeal.Hand.batchOf a b)) = Cert.ReferenceIdeal.Hand.chans a b := by
  funext q p
  unfold Cert.KernelIdeal.Hand.chans
  pointwise [Cert.KernelIdeal.Hand.inOf, Cert.KernelIdeal.Hand.batchOf]
  rfl

/-- The two tables before sorting agree. -/
theorem table_eq (n : Fin 1280) (r : Fin 7) : Cert.KernelIdeal.Hand.detOf (Cert.KernelIdeal.Hand.inOf (Cert.KernelIdeal.Hand.batchOf a b)) (ix2 r.castSucc n)
    = Cert.ReferenceIdeal.Step.A_main_v78 a (ix3 b n r) := by
  rw [Cert.KernelIdeal.Hand.det_at, Cert.ReferenceIdeal.Hand.det_at, chans_eq]
  rfl

/-- The two programs sort by the same scores. -/
theorem keys_eq : (fun n => Cert.KernelIdeal.Hand.objOf (Cert.KernelIdeal.Hand.inOf (Cert.KernelIdeal.Hand.batchOf a b)) (ix2 0 n)) = Cert.ReferenceIdeal.Hand.scores a b := by
  funext n
  rw [← Cert.KernelIdeal.Hand.det_zero]
  exact table_eq a b n 0

/-- The two sorted tables agree. -/
theorem sorted_eq : Cert.KernelIdeal.Hand.cols (Cert.KernelIdeal.Hand.sortedVal (Cert.KernelIdeal.Hand.batchOf a b))
    = Cert.ReferenceIdeal.Hand.boxes (Cert.ReferenceIdeal.Step.A_main_v89 a) b := by
  funext j r
  unfold Cert.KernelIdeal.Hand.cols Cert.ReferenceIdeal.Hand.boxes
  rw [Cert.KernelIdeal.Hand.sorted_at, Cert.ReferenceIdeal.Hand.sorted_at, keys_eq, table_eq]

/-- The kernel's result at an index. -/
theorem result_at (j : Fin 1280) (r : Fin 7) :
    transpose Cert.KernelIdeal.S2x1280x7 [0, 2, 1] (extractStridedSlice Cert.KernelIdeal.S2x7x1280 ![0, 0, 0] (Cert.KernelIdeal.Hand.tables a)
        Cert.KernelIdeal.Gen.slices_S2x8x1280_S2x7x1280_0_0_0) Cert.KernelIdeal.Gen.transposes_S2x7x1280_S2x1280x7_0_2_1 (ix3 b j r)
      = Cert.KernelIdeal.Hand.outVal (Cert.KernelIdeal.Hand.batchOf a b) (ix3 0 r.castSucc j) := by
  pointwise [Cert.KernelIdeal.Hand.tables]
  rfl

/-- The two programs leave the same result. -/
theorem value_eq : transpose Cert.KernelIdeal.S2x1280x7 [0, 2, 1] (extractStridedSlice Cert.KernelIdeal.S2x7x1280 ![0, 0, 0] (Cert.KernelIdeal.Hand.tables a)
        Cert.KernelIdeal.Gen.slices_S2x8x1280_S2x7x1280_0_0_0) Cert.KernelIdeal.Gen.transposes_S2x7x1280_S2x1280x7_0_2_1
      = (Cert.ReferenceIdeal.Hand.trips a 1280).main_v91_3 := by
  funext y
  obtain ⟨b, j, r, rfl⟩ : ∃ (b : Fin 2) (j : Fin 1280) (r : Fin 7), y = ix3 b j r := ⟨y 0, y 1, y 2, funext fun k => by
    match k with
    | 0 => rfl
    | 1 => rfl
    | 2 => rfl⟩
  rw [result_at, Cert.KernelIdeal.Hand.out_at, sorted_eq]
  exact (Cert.ReferenceIdeal.Hand.trips_last a b j r).symm

/-- What the kernel's program leaves. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v3)
        = (Cert.ReferenceIdeal.Hand.trips (F := Ideal) (m ((c.tc : Thread Cert.KernelIdeal.nD Cert.KernelIdeal.τ).loc Cert.KernelIdeal.main_arg0)) 1280).main_v91_3
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) := by
  refine (θ_run _ _ _).mono (fun r h c => ⟨?_, h.2.1 c⟩) (θ_run_and (Cert.KernelIdeal.Hand.run_quiescent m ρ) (Cert.KernelIdeal.Hand.frame_all m ρ))
  refine ((h.1.1 c).2 Cert.KernelIdeal.main_v3 (Pipeline.mem_restRefs_of Cert.KernelIdeal.main_v3 (by decide) (by decide))).trans ?_
  rw [Cert.KernelIdeal.Hand.tail_eq]
  exact value_eq _

end Cert.Values

end

end
-- ==== Proof.lean ====
module

public import proofs.«01_k».proof.Defs
public import proofs.«01_k».proof.Proof.FrameKernel
public import proofs.«01_k».proof.Proof.Value

@[expose] public section

noncomputable section

namespace Cert.Proof

open Idealize.ShloMosaic Idealize.SL.Sem

/-- The ideal kernel ends, its argument unchanged and every semaphore counter at zero. -/
theorem frame_ideal : Cert.quiescent_KernelIdeal (hKernelIdeal := Cert.KernelIdeal.Gen.facts) := fun m ρ _ =>
  Cert.KernelIdeal.Hand.frame_all (F := Ideal) m ρ

/-- The two programs, over the extended reals, leave the same result. -/
theorem equal : Cert.algebraic_KernelIdeal_ReferenceIdeal (hKernelIdeal := Cert.KernelIdeal.Gen.facts) (hReferenceIdeal := Cert.ReferenceIdeal.Gen.facts) := by
  intro m g m' g' _ hm
  refine ⟨_, Cert.Values.run_kernel m g, (θ_run _ _ _).mono (fun r h c => ⟨(h c).1.trans ?_, (h c).2⟩) (Cert.ReferenceIdeal.Hand.run_trips (F := Ideal) m' g')⟩
  rw [hm c]

/-- The claims. -/
theorem claim : Cert.Claim := ⟨Cert.Kernel.Gen.facts, Cert.KernelIdeal.Gen.facts, Cert.ReferenceIdeal.Gen.facts,
  Cert.Kernel.Hand.frame_bits, frame_ideal, Cert.ReferenceIdeal.Hand.frame_reference, trivial, equal⟩

end Cert.Proof

end
